-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_v59) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x32x32 : Shape := ⟨4, ![16, 256, 32, 32]⟩
abbrev S1024x256 : Shape := ⟨2, ![1024, 256]⟩
abbrev S16x32x32x256 : Shape := ⟨4, ![16, 32, 32, 256]⟩
abbrev S16384x256 : Shape := ⟨2, ![16384, 256]⟩
abbrev S_ : Shape := ⟨0, ![]⟩
abbrev S16x32x32 : Shape := ⟨3, ![16, 32, 32]⟩
abbrev S8x1x2048 : Shape := ⟨3, ![8, 1, 2048]⟩
abbrev S1024 : Shape := ⟨1, ![1024]⟩
abbrev S1x1024 : Shape := ⟨2, ![1, 1024]⟩
abbrev S1x1 : Shape := ⟨2, ![1, 1]⟩
abbrev S16384x1024 : Shape := ⟨2, ![16384, 1024]⟩
abbrev S16384x1 : Shape := ⟨2, ![16384, 1]⟩
abbrev S2048x256 : Shape := ⟨2, ![2048, 256]⟩
abbrev S1x1x2048 : Shape := ⟨3, ![1, 1, 2048]⟩
abbrev S2048x1024 : Shape := ⟨2, ![2048, 1024]⟩
abbrev S1x256 : Shape := ⟨2, ![1, 256]⟩
abbrev S1x2048 : Shape := ⟨2, ![1, 2048]⟩
abbrev S2048x1 : Shape := ⟨2, ![2048, 1]⟩
abbrev S2048 : Shape := ⟨1, ![2048]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 23
  | .vmem => 16
  | .smem => 0
  | _ => 0

abbrev bufTy : (tb : Table) → Fin (tcTables nBuf tb) → BufTy
  | .hbm, ⟨0, _⟩ => ⟨S16x256x32x32, .f32⟩
  | .hbm, ⟨1, _⟩ => ⟨S1024x256, .f32⟩
  | .hbm, ⟨2, _⟩ => ⟨S16x32x32x256, .f32⟩
  | .hbm, ⟨3, _⟩ => ⟨S16384x256, .f32⟩
  | .hbm, ⟨4, _⟩ => ⟨S16x256x32x32, .f32⟩
  | .hbm, ⟨5, _⟩ => ⟨S_, .f32⟩
  | .hbm, ⟨6, _⟩ => ⟨S16x32x32, .f32⟩
  | .hbm, ⟨7, _⟩ => ⟨S8x1x2048, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S1024x256, .bf16⟩
  | .hbm, ⟨13, _⟩ => ⟨S1x1, .f32⟩
  | .hbm, ⟨14, _⟩ => ⟨S16384x256, .f32⟩
  | .hbm, ⟨15, _⟩ => ⟨S1x1, .f32⟩
  | .hbm, ⟨16, _⟩ => ⟨S16384x1024, .f32⟩
  | .hbm, ⟨17, _⟩ => ⟨S8x1x2048, .i32⟩
  | .hbm, ⟨18, _⟩ => ⟨S16x32x32x256, .f32⟩
  | .hbm, ⟨19, _⟩ => ⟨S16x256x32x32, .f32⟩
  | .hbm, ⟨20, _⟩ => ⟨S_, .f32⟩
  | .hbm, ⟨21, _⟩ => ⟨S_, .f32⟩
  | .hbm, ⟨22, _⟩ => ⟨S16384x1, .i32⟩
  | .local _ .vmem, ⟨0, _⟩ => ⟨S2048x256, .f32⟩
  | .local _ .vmem, ⟨1, _⟩ => ⟨S2048x256, .f32⟩
  | .local _ .vmem, ⟨2, _⟩ => ⟨S1x1x2048, .f32⟩
  | .local _ .vmem, ⟨3, _⟩ => ⟨S1x1x2048, .f32⟩
  | .local _ .vmem, ⟨4, _⟩ => ⟨S1024x256, .bf16⟩
  | .local _ .vmem, ⟨5, _⟩ => ⟨S1x1024, .f32⟩
  | .local _ .vmem, ⟨6, _⟩ => ⟨S1x1, .f32⟩
  | .local _ .vmem, ⟨7, _⟩ => ⟨S2048x256, .f32⟩
  | .local _ .vmem, ⟨8, _⟩ => ⟨S2048x256, .f32⟩
  | .local _ .vmem, ⟨9, _⟩ => ⟨S1x1, .f32⟩
  | .local _ .vmem, ⟨10, _⟩ => ⟨S2048x1024, .f32⟩
  | .local _ .vmem, ⟨11, _⟩ => ⟨S2048x1024, .f32⟩
  | .local _ .vmem, ⟨12, _⟩ => ⟨S1x1x2048, .i32⟩
  | .local _ .vmem, ⟨13, _⟩ => ⟨S1x1x2048, .i32⟩
  | .local _ .vmem, ⟨14, _⟩ => ⟨S1x1024, .f32⟩
  | .local _ .vmem, ⟨15, _⟩ => ⟨S1x256, .f32⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_cst : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_cst_0 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9_0 : Ref sig .tc := ⟨.hbm, 13, rfl⟩
abbrev main_call0_v9_1 : Ref sig .tc := ⟨.hbm, 14, rfl⟩
abbrev main_call0_v9_2 : Ref sig .tc := ⟨.hbm, 15, rfl⟩
abbrev main_v0_3 : Ref sig .tc := ⟨.hbm, 16, rfl⟩
abbrev main_call0_v9_4 : Ref sig .tc := ⟨.hbm, 17, rfl⟩
abbrev main_call0_v10 : Ref sig .tc := ⟨.hbm, 18, rfl⟩
abbrev main_v0_1 : Ref sig .tc := ⟨.hbm, 19, rfl⟩
abbrev main_v0_0 : Ref sig .tc := ⟨.hbm, 20, rfl⟩
abbrev main_v0_2 : Ref sig .tc := ⟨.hbm, 21, rfl⟩
abbrev main_v0_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v59 : BitVec 1 := Scalar.cmpi .eq arg0 c7_i32
  let v60 : BitVec 32 := Scalar.extui v59
  let c0_i32_33 : BitVec 32 := 0#32
  let v61 : BitVec 1 := Scalar.cmpi .ne v60 c0_i32_33
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16x256x32x32 : Shape := ⟨4, ![16, 256, 32, 32]⟩
abbrev S1024x256 : Shape := ⟨2, ![1024, 256]⟩
abbrev S16x32x32x256 : Shape := ⟨4, ![16, 32, 32, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩
abbrev S16384x2 : Shape := ⟨2, ![16384, 2]⟩

abbrev nBuf : Space → Nat
  | .hbm => 84
  | .vmem => 0
  | .smem => 0
  | _ => 0

abbrev bufTy : (tb : Table) → Fin (tcTables nBuf tb) → BufTy
  | .hbm, ⟨0, _⟩ => ⟨S16x256x32x32, .f32⟩
  | .hbm, ⟨1, _⟩ => ⟨S1024x256, .f32⟩
  | .hbm, ⟨2, _⟩ => ⟨S16x32x32x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S256x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S_, .f32⟩
  | .hbm, ⟨27, _⟩ => ⟨S16384x1024, .f32⟩
  | .hbm, ⟨28, _⟩ => ⟨S16384, .i32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S16384, .i32⟩
  | .hbm, ⟨43, _⟩ => ⟨S16384x1, .i32⟩
  | .hbm, ⟨44, _⟩ => ⟨S16384x1, .i32⟩
  | .hbm, ⟨45, _⟩ => ⟨S16384x2, .i32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x256, .f32⟩
  | .hbm, ⟨50, _⟩ => ⟨S16x32x32x256, .f32⟩
  | .hbm, ⟨51, _⟩ => ⟨S16x32x32x256, .f32⟩
  | .hbm, ⟨52, _⟩ => ⟨S16x32x32x256, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S16x32x32x256, .f32⟩
  | .hbm, ⟨58, _⟩ => ⟨S16x32x32x256, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S16x32x32x256, .f32⟩
  | .hbm, ⟨67, _⟩ => ⟨S16x32x32x256, .f32⟩
  | .hbm, ⟨68, _⟩ => ⟨S_, .f32⟩
  | .hbm, ⟨69, _⟩ => ⟨S1024, .f32⟩
  | .hbm, ⟨70, _⟩ => ⟨S_, .f32⟩
  | .hbm, ⟨71, _⟩ => ⟨S1024, .f32⟩
  | .hbm, ⟨72, _⟩ => ⟨S1024, .f32⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S1024, .f32⟩
  | .hbm, ⟨77, _⟩ => ⟨S1024, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S16x256x32x32, .f32⟩
  | .hbm, ⟨83, _⟩ => ⟨S16384x1, .i32⟩
  | _, _ => ⟨S16x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_cst_13 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_15 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Proof.RefRun.lean ====
/- The reference, run: its @main is a straight line of host operations, cut here into four stretches (the distances, the
   argmin, the one-hot encodings, the results), each stretch read back as a named function of the buffers it reads, and the
   whole run posted with every result buffer at the composition of those functions. -/
module

public import proofs.«01_k».proof.Proof.Gen.ReferenceIdeal
public import Idealize.ShloMosaic.Lib.Pipeline.Frame
public import Idealize.ShloMosaic.Lib.StableHlo.Run
public import Idealize.ShloMosaic.Lib.Quiescent

@[expose] public section

set_option maxRecDepth 16384

noncomputable section

namespace Cert.Proof.Ref

open Cert.ReferenceIdeal Cert.ReferenceIdeal.Gen Idealize.ShloMosaic Idealize.ShloMosaic.TcCoe Idealize.SL.Sem
open Idealize.ShloMosaic.StableHlo

variable {F : FTy → Type} [FloatOps F]

/-- A buffer's contents at a shape and an element type. -/
local notation "Vec[" s ", " e "]" => (BufTy.Contents (Elt F) ⟨s, e⟩)

/-! ## What the stretches compute -/

/-- The input with its channel axis moved last. -/
def chan (x0 : Vec[S16x256x32x32, .f32]) : Vec[S16x32x32x256, .f32] :=
  transpose S16x32x32x256 [0, 2, 3, 1] x0 transposes_S16x256x32x32_S16x32x32x256_0_2_3_1

/-- The input as 16384 token vectors of 256 channels. -/
def flat (x0 : Vec[S16x256x32x32, .f32]) : Vec[S16384x256, .f32] :=
  shapeCast _ (chan x0) shapeCasts_S16x32x32x256_S16384x256

/-- The squared norm of each token vector. -/
def normZ (x0 : Vec[S16x256x32x32, .f32]) : Vec[S16384, .f32] :=
  Host.reduceAdd (mulf (flat x0) (flat x0)) (constant S_ .f32 0x00000000#32) reducesTo_S16384x256_S16384_d1 h_S_

/-- The squared norm of each codebook row. -/
def normW (x1 : Vec[S1024x256, .f32]) : Vec[S1024, .f32] :=
  Host.reduceAdd (mulf x1 x1) (constant S_ .f32 0x00000000#32) reducesTo_S1024x256_S1024_d1 h_S_

/-- The inner product of each token vector with each codebook row. -/
def inner (x0 : Vec[S16x256x32x32, .f32]) (x1 : Vec[S1024x256, .f32]) : Vec[S16384x1024, .f32] :=
  Host.dotGeneral dot_S16384x256_S256x1024_S16384x1024_1_0_0_1_n_n none (flat x0)
    (transpose S256x1024 [1, 0] x1 transposes_S1024x256_S256x1024_1_0)

/-- The squared distance of each token vector to each codebook row. -/
def dist (x0 : Vec[S16x256x32x32, .f32]) (x1 : Vec[S1024x256, .f32]) : Vec[S16384x1024, .f32] :=
  subf
    (addf
      (broadcastInDim S16384x1024 ![0, 1] bcast_S16384x1_S16384x1024_0_1
        (broadcastInDim S16384x1 ![0] bcast_S16384_S16384x1_0 (normZ x0)))
      (broadcastInDim S16384x1024 ![0, 1] bcast_S1x1024_S16384x1024_0_1
        (broadcastInDim S1x1024 ![1] bcast_S1024_S1x1024_1 (normW x1))))
    (mulf (broadcastInDim S16384x1024 ![] bcast_S_S16384x1024 (constant S_ .f32 0x40000000#32)) (inner x0 x1))

/-- The index of each row's least entry, by the fold over pairs (entry, index). -/
def argm (d : Vec[S16384x1024, .f32]) : Vec[S16384, .i32] := fun j =>
  (Host.argReduce reducer_argmin_f32_i32 d (iotaInDim S16384x1024 32 1) (constant S_ .f32 0x7F800000#32)
    (constantI S_ 32 0#32) reducesTo_S16384x1024_S16384_d1 h_S_ j).2

/-- An index vector with `n` added where it is negative. -/
def wrap (n : BitVec 32) (v : Vec[S16384, .i32]) : Vec[S16384, .i32] :=
  select (cmpi .slt v (broadcastInDim S16384 ![] bcast_S_S16384 (constantI S_ 32 0#32)))
    (addi v (broadcastInDim S16384 ![] bcast_S_S16384 (constantI S_ 32 n))) v

/-- The (row, column) pairs at which the encodings get their ones. -/
def places (v : Vec[S16384, .i32]) : Vec[S16384x2, .i32] :=
  concatenate S16384x2 1
    [⟨S16384x1, broadcastInDim S16384x1 ![0] bcast_S16384_S16384x1_0 (wrap (F := F) 16384#32 (iotaInDim S16384 32 0))⟩,
     ⟨S16384x1, broadcastInDim S16384x1 ![0] bcast_S16384_S16384x1_0 (wrap (F := F) 1024#32 v)⟩]
    concatenates_S16384x1_S16384x1_S16384x2_d1

/-- The encodings: ones scattered into zeros. -/
def enc (v : Vec[S16384, .i32]) : Vec[S16384x1024, .f32] :=
  Host.scatter scatter_S16384x1024_S16384x2_S16384_n_01_01_1 (fun _ b => b)
    (broadcastInDim S16384x1024 ![] bcast_S_S16384x1024 (constant S_ .f32 0x00000000#32)) (places (F := F) v)
    (broadcastInDim S16384 ![] bcast_S_S16384 (constant S_ .f32 0x3F800000#32))

/-- The quantized vectors, with the input's axes. -/
def quant (e : Vec[S16384x1024, .f32]) (x1 : Vec[S1024x256, .f32]) : Vec[S16x32x32x256, .f32] :=
  shapeCast _ (Host.dotGeneral dot_S16384x1024_S1024x256_S16384x256_1_0_0_1_n_n none e x1)
    shapeCasts_S16384x256_S16x32x32x256

/-- The mean squared difference of the quantized vectors and the input. -/
def mse (q z : Vec[S16x32x32x256, .f32]) : Vec[S_, .f32] :=
  Host.divf
    (Host.reduceAdd (mulf (subf q z) (subf q z)) (constant S_ .f32 0x00000000#32) reducesTo_S16x32x32x256_S_d0_1_2_3 h_S_)
    (constant S_ .f32 0x4A800000#32)

/-- The loss. -/
def loss (q z : Vec[S16x32x32x256, .f32]) : Vec[S_, .f32] :=
  addf (mse q z) (mulf (constant S_ .f32 0x3E800000#32) (mse q z))

/-- The quantized output, channels second again. -/
def outq (q z : Vec[S16x32x32x256, .f32]) : Vec[S16x256x32x32, .f32] :=
  transpose S16x256x32x32 [0, 3, 1, 2] (addf z (subf q z)) transposes_S16x32x32x256_S16x256x32x32_0_3_1_2

/-- The mean of the encodings over the tokens. -/
def emean (e : Vec[S16384x1024, .f32]) : Vec[S1024, .f32] :=
  Host.divf (Host.reduceAdd e (constant S_ .f32 0x00000000#32) reducesTo_S16384x1024_S1024_d0 h_S_)
    (broadcastInDim S1024 ![] bcast_S_S1024 (constant S_ .f32 0x46800000#32))

/-- The perplexity. -/
def perp (e : Vec[S16384x1024, .f32]) : Vec[S_, .f32] :=
  Host.exp (Host.negf (Host.reduceAdd
    (mulf (emean e) (Host.log (addf (emean e) (broadcastInDim S1024 ![] bcast_S_S1024 (constant S_ .f32 0x2EDBE6FF#32)))))
    (constant S_ .f32 0x00000000#32) reducesTo_S1024_S_d0 h_S_))

/-- The indices as a column. -/
def col (v : Vec[S16384, .i32]) : Vec[S16384x1, .i32] := broadcastInDim S16384x1 ![0] bcast_S16384_S16384x1_0 v

/-! ## The stretches -/

/-- The operations up to the distances. -/
abbrev opsDist : List (HloOp τ sig (Elt F)) :=
  [ unary main_arg0 main_v0 ((transpose S16x32x32x256 [0, 2, 3, 1] · transposes_S16x256x32x32_S16x32x32x256_0_2_3_1) : (⟨S16x256x32x32, .f32⟩ : BufTy).Contents (Elt F) → (⟨S16x32x32x256, .f32⟩ : BufTy).Contents (Elt F)),
    reshape main_v0 main_v1 (rfl : (.f32 : EltTy) = .f32) shapeCasts_S16x32x32x256_S16384x256,
    binary main_v1 main_v1 main_v2 (mulf : (⟨S16384x256, .f32⟩ : BufTy).Contents (Elt F) → (⟨S16384x256, .f32⟩ : BufTy).Contents (Elt F) → (⟨S16384x256, .f32⟩ : BufTy).Contents (Elt F)),
    nullary main_cst (constant S_ .f32 0x00000000#32),
    binary main_v2 main_cst main_v3 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v3 main_v4 (broadcastInDim S16384x1 ![0] bcast_S16384_S16384x1_0 : (⟨S16384, .f32⟩ : BufTy).Contents (Elt F) → (⟨S16384x1, .f32⟩ : BufTy).Contents (Elt F)),
    binary main_arg1 main_arg1 main_v5 (mulf : (⟨S1024x256, .f32⟩ : BufTy).Contents (Elt F) → (⟨S1024x256, .f32⟩ : BufTy).Contents (Elt F) → (⟨S1024x256, .f32⟩ : BufTy).Contents (Elt F)),
    nullary main_cst_0 (constant S_ .f32 0x00000000#32),
    binary main_v5 main_cst_0 main_v6 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S16384x1024 ![0, 1] bcast_S16384x1_S16384x1024_0_1 : (⟨S16384x1, .f32⟩ : BufTy).Contents (Elt F) → (⟨S16384x1024, .f32⟩ : BufTy).Contents (Elt F)),
    unary main_v7 main_v9 (broadcastInDim S16384x1024 ![0, 1] bcast_S1x1024_S16384x1024_0_1 : (⟨S1x1024, .f32⟩ : BufTy).Contents (Elt F) → (⟨S16384x1024, .f32⟩ : BufTy).Contents (Elt F)),
    binary main_v8 main_v9 main_v10 (addf : (⟨S16384x1024, .f32⟩ : BufTy).Contents (Elt F) → (⟨S16384x1024, .f32⟩ : BufTy).Contents (Elt F) → (⟨S16384x1024, .f32⟩ : BufTy).Contents (Elt F)),
    unary main_arg1 main_v11 ((transpose S256x1024 [1, 0] · transposes_S1024x256_S256x1024_1_0) : (⟨S1024x256, .f32⟩ : BufTy).Contents (Elt F) → (⟨S256x1024, .f32⟩ : BufTy).Contents (Elt F)),
    binary main_v1 main_v11 main_v12 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    nullary main_cst_1 (constant S_ .f32 0x40000000#32),
    unary main_cst_1 main_v13 (broadcastInDim S16384x1024 ![] bcast_S_S16384x1024 : (⟨S_, .f32⟩ : BufTy).Contents (Elt F) → (⟨S16384x1024, .f32⟩ : BufTy).Contents (Elt F)),
    binary main_v13 main_v12 main_v14 (mulf : (⟨S16384x1024, .f32⟩ : BufTy).Contents (Elt F) → (⟨S16384x1024, .f32⟩ : BufTy).Contents (Elt F) → (⟨S16384x1024, .f32⟩ : BufTy).Contents (Elt F)),
    binary main_v10 main_v14 main_v15 (subf : (⟨S16384x1024, .f32⟩ : BufTy).Contents (Elt F) → (⟨S16384x1024, .f32⟩ : BufTy).Contents (Elt F) → (⟨S16384x1024, .f32⟩ : BufTy).Contents (Elt F)) ]

/-- The argmin's operations. -/
abbrev opsArg : List (HloOp τ sig (Elt F)) :=
  [ TRef.nullary (TRef.of (T := ⟨S16384x1024, .i32⟩) main_call0_v0) (iotaInDim S16384x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16384x1024, .f32⟩) main_v15) (TRef.of (T := ⟨S16384x1024, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmin_f32_i32 x y u v reducesTo_S16384x1024_S16384_d1 h_S_ j).1),
    TRef.quaternary (TRef.of (T := ⟨S16384x1024, .f32⟩) main_v15) (TRef.of (T := ⟨S16384x1024, .i32⟩) main_call0_v0) (TRef.of (T := ⟨S_, .f32⟩) main_call0_cst) (TRef.of (T := ⟨S_, .i32⟩) main_call0_c) (TRef.of (T := ⟨S16384, .i32⟩) main_v16) (fun x y u v j => (Host.argReduce reducer_argmin_f32_i32 x y u v reducesTo_S16384x1024_S16384_d1 h_S_ j).2) ]

/-- The operations that build the encodings. -/
abbrev opsEnc : List (HloOp τ sig (Elt F)) :=
  [ nullary main_cst_2 (constant S_ .f32 0x00000000#32),
    unary main_cst_2 main_v17 (broadcastInDim S16384x1024 ![] bcast_S_S16384x1024 : (⟨S_, .f32⟩ : BufTy).Contents (Elt F) → (⟨S16384x1024, .f32⟩ : BufTy).Contents (Elt F)),
    nullary main_v18 (iotaInDim S16384 32 0),
    nullary main_c (constantI S_ 32 0#32),
    unary main_c main_v19 (broadcastInDim S16384 ![] bcast_S_S16384 : (⟨S_, .i32⟩ : BufTy).Contents (Elt F) → (⟨S16384, .i32⟩ : BufTy).Contents (Elt F)),
    binary main_v18 main_v19 main_v20 (cmpi .slt : (⟨S16384, .i32⟩ : BufTy).Contents (Elt F) → (⟨S16384, .i32⟩ : BufTy).Contents (Elt F) → (⟨S16384, .i1⟩ : BufTy).Contents (Elt F)),
    nullary main_c_3 (constantI S_ 32 16384#32),
    unary main_c_3 main_v21 (broadcastInDim S16384 ![] bcast_S_S16384 : (⟨S_, .i32⟩ : BufTy).Contents (Elt F) → (⟨S16384, .i32⟩ : BufTy).Contents (Elt F)),
    binary main_v18 main_v21 main_v22 (addi : (⟨S16384, .i32⟩ : BufTy).Contents (Elt F) → (⟨S16384, .i32⟩ : BufTy).Contents (Elt F) → (⟨S16384, .i32⟩ : BufTy).Contents (Elt F)),
    ternary main_v20 main_v22 main_v18 main_v23 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_4 (constantI S_ 32 0#32),
    unary main_c_4 main_v24 (broadcastInDim S16384 ![] bcast_S_S16384 : (⟨S_, .i32⟩ : BufTy).Contents (Elt F) → (⟨S16384, .i32⟩ : BufTy).Contents (Elt F)),
    binary main_v16 main_v24 main_v25 (cmpi .slt : (⟨S16384, .i32⟩ : BufTy).Contents (Elt F) → (⟨S16384, .i32⟩ : BufTy).Contents (Elt F) → (⟨S16384, .i1⟩ : BufTy).Contents (Elt F)),
    nullary main_c_5 (constantI S_ 32 1024#32),
    unary main_c_5 main_v26 (broadcastInDim S16384 ![] bcast_S_S16384 : (⟨S_, .i32⟩ : BufTy).Contents (Elt F) → (⟨S16384, .i32⟩ : BufTy).Contents (Elt F)),
    binary main_v16 main_v26 main_v27 (addi : (⟨S16384, .i32⟩ : BufTy).Contents (Elt F) → (⟨S16384, .i32⟩ : BufTy).Contents (Elt F) → (⟨S16384, .i32⟩ : BufTy).Contents (Elt F)),
    ternary main_v25 main_v27 main_v16 main_v28 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v23 main_v29 (broadcastInDim S16384x1 ![0] bcast_S16384_S16384x1_0 : (⟨S16384, .i32⟩ : BufTy).Contents (Elt F) → (⟨S16384x1, .i32⟩ : BufTy).Contents (Elt F)),
    unary main_v28 main_v30 (broadcastInDim S16384x1 ![0] bcast_S16384_S16384x1_0 : (⟨S16384, .i32⟩ : BufTy).Contents (Elt F) → (⟨S16384x1, .i32⟩ : BufTy).Contents (Elt F)),
    binary main_v29 main_v30 main_v31 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    nullary main_cst_6 (constant S_ .f32 0x3F800000#32),
    unary main_cst_6 main_v32 (broadcastInDim S16384 ![] bcast_S_S16384 : (⟨S_, .f32⟩ : BufTy).Contents (Elt F) → (⟨S16384, .f32⟩ : BufTy).Contents (Elt F)),
    ternary main_v17 main_v31 main_v32 main_v33 ((fun x i u => Host.scatter scatter_S16384x1024_S16384x2_S16384_n_01_01_1 (fun _ b => b) x i u) : (⟨S16384x1024, .f32⟩ : BufTy).Contents (Elt F) → (⟨S16384x2, .i32⟩ : BufTy).Contents (Elt F) → (⟨S16384, .f32⟩ : BufTy).Contents (Elt F) → (⟨S16384x1024, .f32⟩ : BufTy).Contents (Elt F)) ]

/-- The operations after the encodings. -/
abbrev opsOut : List (HloOp τ sig (Elt F)) :=
  [ binary main_v33 main_arg1 main_v34 ((fun l r => Host.dotGeneral dot_S16384x1024_S1024x256_S16384x256_1_0_0_1_n_n none l r) : (⟨S16384x1024, .f32⟩ : BufTy).Contents (Elt F) → (⟨S1024x256, .f32⟩ : BufTy).Contents (Elt F) → (⟨S16384x256, .f32⟩ : BufTy).Contents (Elt F)),
    reshape main_v34 main_v35 (rfl : (.f32 : EltTy) = .f32) shapeCasts_S16384x256_S16x32x32x256,
    binary main_v35 main_v0 main_v36 (subf : (⟨S16x32x32x256, .f32⟩ : BufTy).Contents (Elt F) → (⟨S16x32x32x256, .f32⟩ : BufTy).Contents (Elt F) → (⟨S16x32x32x256, .f32⟩ : BufTy).Contents (Elt F)),
    binary main_v36 main_v36 main_v37 (mulf : (⟨S16x32x32x256, .f32⟩ : BufTy).Contents (Elt F) → (⟨S16x32x32x256, .f32⟩ : BufTy).Contents (Elt F) → (⟨S16x32x32x256, .f32⟩ : BufTy).Contents (Elt F)),
    nullary main_cst_7 (constant S_ .f32 0x00000000#32),
    binary main_v37 main_cst_7 main_v38 ((fun x v => Host.reduceAdd x v reducesTo_S16x32x32x256_S_d0_1_2_3 h_S_) : (⟨S16x32x32x256, .f32⟩ : BufTy).Contents (Elt F) → (⟨S_, .f32⟩ : BufTy).Contents (Elt F) → (⟨S_, .f32⟩ : BufTy).Contents (Elt F)),
    nullary main_cst_8 (constant S_ .f32 0x4A800000#32),
    binary main_v38 main_cst_8 main_v39 (Host.divf : (⟨S_, .f32⟩ : BufTy).Contents (Elt F) → (⟨S_, .f32⟩ : BufTy).Contents (Elt F) → (⟨S_, .f32⟩ : BufTy).Contents (Elt F)),
    binary main_v35 main_v0 main_v40 (subf : (⟨S16x32x32x256, .f32⟩ : BufTy).Contents (Elt F) → (⟨S16x32x32x256, .f32⟩ : BufTy).Contents (Elt F) → (⟨S16x32x32x256, .f32⟩ : BufTy).Contents (Elt F)),
    binary main_v40 main_v40 main_v41 (mulf : (⟨S16x32x32x256, .f32⟩ : BufTy).Contents (Elt F) → (⟨S16x32x32x256, .f32⟩ : BufTy).Contents (Elt F) → (⟨S16x32x32x256, .f32⟩ : BufTy).Contents (Elt F)),
    nullary main_cst_9 (constant S_ .f32 0x00000000#32),
    binary main_v41 main_cst_9 main_v42 ((fun x v => Host.reduceAdd x v reducesTo_S16x32x32x256_S_d0_1_2_3 h_S_) : (⟨S16x32x32x256, .f32⟩ : BufTy).Contents (Elt F) → (⟨S_, .f32⟩ : BufTy).Contents (Elt F) → (⟨S_, .f32⟩ : BufTy).Contents (Elt F)),
    nullary main_cst_10 (constant S_ .f32 0x4A800000#32),
    binary main_v42 main_cst_10 main_v43 (Host.divf : (⟨S_, .f32⟩ : BufTy).Contents (Elt F) → (⟨S_, .f32⟩ : BufTy).Contents (Elt F) → (⟨S_, .f32⟩ : BufTy).Contents (Elt F)),
    nullary main_cst_11 (constant S_ .f32 0x3E800000#32),
    binary main_cst_11 main_v43 main_v44 (mulf : (⟨S_, .f32⟩ : BufTy).Contents (Elt F) → (⟨S_, .f32⟩ : BufTy).Contents (Elt F) → (⟨S_, .f32⟩ : BufTy).Contents (Elt F)),
    binary main_v39 main_v44 main_v45 (addf : (⟨S_, .f32⟩ : BufTy).Contents (Elt F) → (⟨S_, .f32⟩ : BufTy).Contents (Elt F) → (⟨S_, .f32⟩ : BufTy).Contents (Elt F)),
    binary main_v35 main_v0 main_v46 (subf : (⟨S16x32x32x256, .f32⟩ : BufTy).Contents (Elt F) → (⟨S16x32x32x256, .f32⟩ : BufTy).Contents (Elt F) → (⟨S16x32x32x256, .f32⟩ : BufTy).Contents (Elt F)),
    binary main_v0 main_v46 main_v47 (addf : (⟨S16x32x32x256, .f32⟩ : BufTy).Contents (Elt F) → (⟨S16x32x32x256, .f32⟩ : BufTy).Contents (Elt F) → (⟨S16x32x32x256, .f32⟩ : BufTy).Contents (Elt F)),
    nullary main_cst_12 (constant S_ .f32 0x00000000#32),
    binary main_v33 main_cst_12 main_v48 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_13 (constant S_ .f32 0x46800000#32),
    unary main_cst_13 main_v49 (broadcastInDim S1024 ![] bcast_S_S1024 : (⟨S_, .f32⟩ : BufTy).Contents (Elt F) → (⟨S1024, .f32⟩ : BufTy).Contents (Elt F)),
    binary main_v48 main_v49 main_v50 (Host.divf : (⟨S1024, .f32⟩ : BufTy).Contents (Elt F) → (⟨S1024, .f32⟩ : BufTy).Contents (Elt F) → (⟨S1024, .f32⟩ : BufTy).Contents (Elt F)),
    nullary main_cst_14 (constant S_ .f32 0x2EDBE6FF#32),
    unary main_cst_14 main_v51 (broadcastInDim S1024 ![] bcast_S_S1024 : (⟨S_, .f32⟩ : BufTy).Contents (Elt F) → (⟨S1024, .f32⟩ : BufTy).Contents (Elt F)),
    binary main_v50 main_v51 main_v52 (addf : (⟨S1024, .f32⟩ : BufTy).Contents (Elt F) → (⟨S1024, .f32⟩ : BufTy).Contents (Elt F) → (⟨S1024, .f32⟩ : BufTy).Contents (Elt F)),
    unary main_v52 main_v53 (Host.log : (⟨S1024, .f32⟩ : BufTy).Contents (Elt F) → (⟨S1024, .f32⟩ : BufTy).Contents (Elt F)),
    binary main_v50 main_v53 main_v54 (mulf : (⟨S1024, .f32⟩ : BufTy).Contents (Elt F) → (⟨S1024, .f32⟩ : BufTy).Contents (Elt F) → (⟨S1024, .f32⟩ : BufTy).Contents (Elt F)),
    nullary main_cst_15 (constant S_ .f32 0x00000000#32),
    binary main_v54 main_cst_15 main_v55 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v55 main_v56 (Host.negf : (⟨S_, .f32⟩ : BufTy).Contents (Elt F) → (⟨S_, .f32⟩ : BufTy).Contents (Elt F)),
    unary main_v56 main_v57 (Host.exp : (⟨S_, .f32⟩ : BufTy).Contents (Elt F) → (⟨S_, .f32⟩ : BufTy).Contents (Elt F)),
    unary main_v47 main_v58 ((transpose S16x256x32x32 [0, 3, 1, 2] · transposes_S16x32x32x256_S16x256x32x32_0_3_1_2) : (⟨S16x32x32x256, .f32⟩ : BufTy).Contents (Elt F) → (⟨S16x256x32x32, .f32⟩ : BufTy).Contents (Elt F)),
    unary main_v16 main_v59 (broadcastInDim S16384x1 ![0] bcast_S16384_S16384x1_0 : (⟨S16384, .i32⟩ : BufTy).Contents (Elt F) → (⟨S16384x1, .i32⟩ : BufTy).Contents (Elt F)) ]

/-- All of @main's operations. -/
abbrev ops : List (HloOp τ sig (Elt F)) := opsDist ++ (opsArg ++ (opsEnc ++ opsOut))

set_option maxHeartbeats 4000000 in
/-- @main is that line. -/
theorem main_eq (c : Dev nD) : main (F := F) c = seq ops := rfl

/-- The signature scopes no buffer. -/
theorem scopedRefs_eq : (Finset.univ.filter fun b : Ref sig .tc => b.isScoped) = ∅ := by decide

/-- The signature scopes no semaphore. -/
theorem scopedSems_eq : (Finset.univ.filter fun sm : SemLoc sig => sm.isScoped .tc) = ∅ := by decide

/-- Every operation's buffers are the TensorCore's. -/
theorem ops_sub : (ops : List (HloOp τ sig (Elt F))).Forall fun op => op.bufs ⊆ tcRefs τ sig := by
  have h1 : (opsDist : List (HloOp τ sig (Elt F))).Forall fun op => op.bufs ⊆ tcRefs τ sig :=
    ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩
  have h2 : (opsArg : List (HloOp τ sig (Elt F))).Forall fun op => op.bufs ⊆ tcRefs τ sig :=
    ⟨nullary_bufs_sub .., nullary_bufs_sub .., nullary_bufs_sub .., quaternary_bufs_sub .., quaternary_bufs_sub ..⟩
  have h3 : (opsEnc : List (HloOp τ sig (Elt F))).Forall fun op => op.bufs ⊆ tcRefs τ sig :=
    ⟨nullary_bufs_sub .., unary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub ..⟩
  have h4 : (opsOut : List (HloOp τ sig (Elt F))).Forall fun op => op.bufs ⊆ tcRefs τ sig :=
    ⟨binary_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., unary_bufs_sub .., unary_bufs_sub ..⟩
  exact List.forall_append.mpr ⟨h1, List.forall_append.mpr ⟨h2, List.forall_append.mpr ⟨h3, h4⟩⟩⟩

/-! ## Each stretch, read back -/

variable (V : Valuation τ sig (Elt F))

set_option maxHeartbeats 4000000 in
/-- After the first stretch: the distances. -/
theorem dist_v15 : after opsDist V (Proc.devRef .tc main_v15) = dist (V (Proc.devRef .tc main_arg0)) (V (Proc.devRef .tc main_arg1)) := by
  after_results_simp; rfl

/-- After the first stretch: the input with channels last. -/
theorem dist_v0 : after opsDist V (Proc.devRef .tc main_v0) = chan (V (Proc.devRef .tc main_arg0)) := by
  after_results_simp; rfl

/-- The first stretch leaves the input as it is. -/
theorem dist_arg0 : after opsDist V (Proc.devRef .tc main_arg0) = V (Proc.devRef .tc main_arg0) := by after_results_simp
/-- The first stretch leaves the codebook as it is. -/
theorem dist_arg1 : after opsDist V (Proc.devRef .tc main_arg1) = V (Proc.devRef .tc main_arg1) := by after_results_simp

/-- After the second stretch: the indices. -/
theorem arg_v16 : after opsArg V (Proc.devRef .tc main_v16) = argm (V (Proc.devRef .tc main_v15)) := by
  simp only [opsArg, TRef.quaternary, TRef.nullary, TRef.toBuf, TRef.ofBuf, cast_eq]
  after_results_simp; rfl

/-- The second stretch leaves the input with channels last as it is. -/
theorem arg_v0 : after opsArg V (Proc.devRef .tc main_v0) = V (Proc.devRef .tc main_v0) := by
  simp only [opsArg, TRef.quaternary, TRef.nullary, TRef.toBuf, TRef.ofBuf, cast_eq]
  after_results_simp

/-- The second stretch leaves the input as it is. -/
theorem arg_arg0 : after opsArg V (Proc.devRef .tc main_arg0) = V (Proc.devRef .tc main_arg0) := by
  simp only [opsArg, TRef.quaternary, TRef.nullary, TRef.toBuf, TRef.ofBuf, cast_eq]
  after_results_simp

/-- The second stretch leaves the codebook as it is. -/
theorem arg_arg1 : after opsArg V (Proc.devRef .tc main_arg1) = V (Proc.devRef .tc main_arg1) := by
  simp only [opsArg, TRef.quaternary, TRef.nullary, TRef.toBuf, TRef.ofBuf, cast_eq]
  after_results_simp

set_option maxHeartbeats 4000000 in
/-- After the third stretch: the encodings. -/
theorem enc_v33 : after opsEnc V (Proc.devRef .tc main_v33) = enc (V (Proc.devRef .tc main_v16)) := by
  after_results_simp; rfl

/-- The third stretch leaves the input with channels last as it is. -/
theorem enc_v0 : after opsEnc V (Proc.devRef .tc main_v0) = V (Proc.devRef .tc main_v0) := by after_results_simp
/-- The third stretch leaves the indices as it is. -/
theorem enc_v16 : after opsEnc V (Proc.devRef .tc main_v16) = V (Proc.devRef .tc main_v16) := by after_results_simp
/-- The third stretch leaves the input as it is. -/
theorem enc_arg0 : after opsEnc V (Proc.devRef .tc main_arg0) = V (Proc.devRef .tc main_arg0) := by after_results_simp
/-- The third stretch leaves the codebook as it is. -/
theorem enc_arg1 : after opsEnc V (Proc.devRef .tc main_arg1) = V (Proc.devRef .tc main_arg1) := by after_results_simp

set_option maxHeartbeats 4000000 in
/-- After the last stretch: the loss. -/
theorem out_v45 : after opsOut V (Proc.devRef .tc main_v45) = loss (quant (V (Proc.devRef .tc main_v33)) (V (Proc.devRef .tc main_arg1))) (V (Proc.devRef .tc main_v0)) := by
  after_results_simp; rfl

set_option maxHeartbeats 4000000 in
/-- After the last stretch: the quantized output. -/
theorem out_v58 : after opsOut V (Proc.devRef .tc main_v58) = outq (quant (V (Proc.devRef .tc main_v33)) (V (Proc.devRef .tc main_arg1))) (V (Proc.devRef .tc main_v0)) := by
  after_results_simp; rfl

set_option maxHeartbeats 4000000 in
/-- After the last stretch: the perplexity. -/
theorem out_v57 : after opsOut V (Proc.devRef .tc main_v57) = perp (V (Proc.devRef .tc main_v33)) := by
  after_results_simp; rfl

/-- After the last stretch: the indices as a column. -/
theorem out_v59 : after opsOut V (Proc.devRef .tc main_v59) = col (V (Proc.devRef .tc main_v16)) := by
  after_results_simp; rfl

/-- The last stretch leaves the encodings as it is. -/
theorem out_v33 : after opsOut V (Proc.devRef .tc main_v33) = V (Proc.devRef .tc main_v33) := by after_results_simp
/-- The last stretch leaves the input as it is. -/
theorem out_arg0 : after opsOut V (Proc.devRef .tc main_arg0) = V (Proc.devRef .tc main_arg0) := by after_results_simp
/-- The last stretch leaves the codebook as it is. -/
theorem out_arg1 : after opsOut V (Proc.devRef .tc main_arg1) = V (Proc.devRef .tc main_arg1) := by after_results_simp

/-! ## The run -/

/-- The indices of the nearest codebook rows. -/
def idxOf (x0 : Vec[S16x256x32x32, .f32]) (x1 : Vec[S1024x256, .f32]) : Vec[S16384, .i32] := argm (dist x0 x1)

/-- The encodings of the input. -/
def encOf (x0 : Vec[S16x256x32x32, .f32]) (x1 : Vec[S1024x256, .f32]) : Vec[S16384x1024, .f32] := enc (idxOf x0 x1)

/-- The quantized input, channels last. -/
def quantOf (x0 : Vec[S16x256x32x32, .f32]) (x1 : Vec[S1024x256, .f32]) : Vec[S16x32x32x256, .f32] :=
  quant (encOf x0 x1) x1

set_option maxHeartbeats 4000000 in
/-- The run of the reference: every result buffer at its function of the arguments, the arguments unchanged, every
    semaphore counter zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v45)
          = loss (quantOf (m ((c.tc : Thread nD τ).loc main_arg0)) (m ((c.tc : Thread nD τ).loc main_arg1)))
              (chan (m ((c.tc : Thread nD τ).loc main_arg0)))
      ∧ r.2.mem ((c.tc : Thread nD τ).loc main_v58)
          = outq (quantOf (m ((c.tc : Thread nD τ).loc main_arg0)) (m ((c.tc : Thread nD τ).loc main_arg1)))
              (chan (m ((c.tc : Thread nD τ).loc main_arg0)))
      ∧ r.2.mem ((c.tc : Thread nD τ).loc main_v57)
          = perp (encOf (m ((c.tc : Thread nD τ).loc main_arg0)) (m ((c.tc : Thread nD τ).loc main_arg1)))
      ∧ r.2.mem ((c.tc : Thread nD τ).loc main_v33)
          = encOf (m ((c.tc : Thread nD τ).loc main_arg0)) (m ((c.tc : Thread nD τ).loc main_arg1))
      ∧ r.2.mem ((c.tc : Thread nD τ).loc main_v59)
          = col (idxOf (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 := by
  refine (θ_run defs _ _).mono (fun r h => ⟨fun c => ?_, sem_eq_zero_of_no_sems (by decide) r.2⟩)
    (run_seq scopedRefs_eq scopedSems_eq defs main (fun _ => ops) main_eq (fun _ => ops_sub) m ρ)
  have h := h c
  simp only [ops, after_append] at h
  refine ⟨(h main_v45).trans ?_, (h main_v58).trans ?_, (h main_v57).trans ?_, (h main_v33).trans ?_,
    (h main_v59).trans ?_, (h main_arg0).trans ?_, (h main_arg1).trans ?_⟩
  · rw [out_v45, enc_v33, enc_v0, enc_arg1, arg_v16, arg_v0, arg_arg1, dist_v15, dist_v0, dist_arg1]; rfl
  · rw [out_v58, enc_v33, enc_v0, enc_arg1, arg_v16, arg_v0, arg_arg1, dist_v15, dist_v0, dist_arg1]; rfl
  · rw [out_v57, enc_v33, arg_v16, dist_v15]; rfl
  · rw [out_v33, enc_v33, arg_v16, dist_v15]; rfl
  · rw [out_v59, enc_v16, arg_v16, dist_v15]; rfl
  · rw [out_arg0, enc_arg0, arg_arg0, dist_arg0]
  · rw [out_arg1, enc_arg1, arg_arg1, dist_arg1]

end Cert.Proof.Ref

end
-- ==== Proof.KerOuts.lean ====
/- What one grid point of the kernel leaves in its output blocks and its two running sums, as functions of its four input blocks. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.Proof.Ker

open Cert.KernelIdeal Cert.KernelIdeal.Gen Idealize.ShloMosaic Idealize.ShloMosaic.TcCoe Idealize.SL.Sem
open Idealize.ShloMosaic.Pipeline (Dat)

variable {F : FTy → Type} [FloatOps F]

/-- Two zero offsets. -/
theorem hz : (![0, 0] : Fin 2 → Nat) = fun _ => 0 := funext fun a => by fin_cases a <;> rfl

/-- Three zero offsets. -/
theorem hz3 : (![0, 0, 0] : Fin 3 → Nat) = fun _ => 0 := funext fun a => by fin_cases a <;> rfl

/-- The scalar zero. -/
abbrev zero : F .f32 := Scalar.ofBits .f32 0x00000000#32

section Block
variable (x0 : Vec F S2048x256 .f32) (x1 : Vec F S1x1x2048 .f32) (x2 : Vec F S1024x256 .bf16) (x3 : Vec F S1x1024 .f32)

/-- The block's encodings. -/
def encB : Vec F S2048x1024 .f32 := k0_pay1 (k0_pay15 x0 x2 x1 x3) zero k0_pay16

/-- The block's quantized vectors. -/
def zqB : Vec F S2048x256 .f32 := k0_pay4 (k0_pay9 x0) (k0_pay10 x2) (k0_pay15 x0 x2 x1 x3) zero k0_pay16

/-- The block's indices. -/
def idxB : Vec F S1x1x2048 .i32 := k0_pay14 x0 x2 x1 x3

/-- The counts after the block, from those before it. -/
def cntB (s : Vec F S1x1024 .f32) : Vec F S1x1024 .f32 := k0_pay5 (k0_pay15 x0 x2 x1 x3) zero k0_pay16 s

/-- The squared-difference sums after the block, from those before it. -/
def sqB (s : Vec F S1x256 .f32) : Vec F S1x256 .f32 :=
  k0_pay6 (k0_pay9 x0) (k0_pay10 x2) (k0_pay15 x0 x2 x1 x3) zero k0_pay16 s
end Block

variable (m : (ℓ : Loc nD τ sig) → Buf (Elt F) ℓ) (c : Dev nD)

/-- A function of the point's four input blocks. -/
abbrev atB {α : Sort*} (f : Vec F S2048x256 .f32 → Vec F S1x1x2048 .f32 → Vec F S1024x256 .bf16 → Vec F S1x1024 .f32 → α)
    (t : Fin cfg0.N) : α := f (iblk m c 0 t) (iblk m c 1 t) (iblk m c 2 t) (iblk m c 3 t)

/-- At the first point: the quantized vectors. -/
theorem zq_A (t : Fin cfg0.N) (h0 : t.val % 8 = 0) (h1 : ¬t.val % 8 = 7) :
    (outsAt0 m c t.val t.isLt).2.1 = atB m c zqB t := by
  rw [outsAt0_A m c t h0 h1]
  dsimp only
  unfold out0_A_5
  rw [View.read_writes_eq_canon _ _ _ (fun y => cover0_A_5 (y := y) ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S2048x256) hz, View.ld_unit_zero (S := S1024x256) hz, View.ld_unit_zero (S := S1x1024) hz,
    View.ld_unit_zero (S := S1x256) hz, View.ld_unit_zero (S := S1x1x2048) hz3]
  rfl

/-- At a middle point: the quantized vectors. -/
theorem zq_B (t : Fin cfg0.N) (h0 : ¬t.val % 8 = 0) (h1 : ¬t.val % 8 = 7) :
    (outsAt0 m c t.val t.isLt).2.1 = atB m c zqB t := by
  rw [outsAt0_B m c t h0 h1]
  dsimp only
  unfold out0_B_5
  rw [View.read_writes_eq_canon _ _ _ (fun y => cover0_B_5 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S2048x256) hz, View.ld_unit_zero (S := S1024x256) hz, View.ld_unit_zero (S := S1x1024) hz,
    View.ld_unit_zero (S := S1x256) hz, View.ld_unit_zero (S := S1x1x2048) hz3]
  rfl

/-- At the last point: the quantized vectors. -/
theorem zq_C (t : Fin cfg0.N) (h0 : ¬t.val % 8 = 0) (h1 : t.val % 8 = 7) :
    (outsAt0 m c t.val t.isLt).2.1 = atB m c zqB t := by
  rw [outsAt0_C m c t h0 h1]
  dsimp only
  unfold out0_C_5
  rw [View.read_writes_eq_canon _ _ _ (fun y => cover0_C_5 (y := y) ..)]
  unfold kernelRun0_C
  dsimp only
  sl_unfold_words
  rw [View.canon_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S2048x256) hz, View.ld_unit_zero (S := S1024x256) hz, View.ld_unit_zero (S := S1x1024) hz,
    View.ld_unit_zero (S := S1x256) hz, View.ld_unit_zero (S := S1x1x2048) hz3]
  rfl

/-- At the first point: the encodings. -/
theorem enc_A (t : Fin cfg0.N) (h0 : t.val % 8 = 0) (h1 : ¬t.val % 8 = 7) :
    (outsAt0 m c t.val t.isLt).2.2.2.1 = atB m c encB t := by
  rw [outsAt0_A m c t h0 h1]
  dsimp only
  unfold out0_A_7
  rw [View.read_writes_eq_canon _ _ _ (fun y => cover0_A_7 (y := y) ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S2048x256) hz, View.ld_unit_zero (S := S1024x256) hz, View.ld_unit_zero (S := S1x1024) hz,
    View.ld_unit_zero (S := S1x256) hz, View.ld_unit_zero (S := S1x1x2048) hz3]
  rfl

/-- At a middle point: the encodings. -/
theorem enc_B (t : Fin cfg0.N) (h0 : ¬t.val % 8 = 0) (h1 : ¬t.val % 8 = 7) :
    (outsAt0 m c t.val t.isLt).2.2.2.1 = atB m c encB t := by
  rw [outsAt0_B m c t h0 h1]
  dsimp only
  unfold out0_B_7
  rw [View.read_writes_eq_canon _ _ _ (fun y => cover0_B_7 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S2048x256) hz, View.ld_unit_zero (S := S1024x256) hz, View.ld_unit_zero (S := S1x1024) hz,
    View.ld_unit_zero (S := S1x256) hz, View.ld_unit_zero (S := S1x1x2048) hz3]
  rfl

/-- At the last point: the encodings. -/
theorem enc_C (t : Fin cfg0.N) (h0 : ¬t.val % 8 = 0) (h1 : t.val % 8 = 7) :
    (outsAt0 m c t.val t.isLt).2.2.2.1 = atB m c encB t := by
  rw [outsAt0_C m c t h0 h1]
  dsimp only
  unfold out0_C_7
  rw [View.read_writes_eq_canon _ _ _ (fun y => cover0_C_7 (y := y) ..)]
  unfold kernelRun0_C
  dsimp only
  sl_unfold_words
  rw [View.canon_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S2048x256) hz, View.ld_unit_zero (S := S1024x256) hz, View.ld_unit_zero (S := S1x1024) hz,
    View.ld_unit_zero (S := S1x256) hz, View.ld_unit_zero (S := S1x1x2048) hz3]
  rfl

/-- At the first point: the indices. -/
theorem idx_A (t : Fin cfg0.N) (h0 : t.val % 8 = 0) (h1 : ¬t.val % 8 = 7) :
    (outsAt0 m c t.val t.isLt).2.2.2.2.1 = atB m c idxB t := by
  rw [outsAt0_A m c t h0 h1]
  dsimp only
  unfold out0_A_8
  rw [View.read_writes_eq_canon _ _ _ (fun y => cover0_A_8 (y := y) ..)]
  unfold kernelRun0_A
  dsimp only
  sl_unfold_words
  rw [View.canon_unit_zero hz3]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S2048x256) hz, View.ld_unit_zero (S := S1024x256) hz, View.ld_unit_zero (S := S1x1024) hz,
    View.ld_unit_zero (S := S1x256) hz, View.ld_unit_zero (S := S1x1x2048) hz3]
  rfl

/-- At a middle point: the indices. -/
theorem idx_B (t : Fin cfg0.N) (h0 : ¬t.val % 8 = 0) (h1 : ¬t.val % 8 = 7) :
    (outsAt0 m c t.val t.isLt).2.2.2.2.1 = atB m c idxB t := by
  rw [outsAt0_B m c t h0 h1]
  dsimp only
  unfold out0_B_8
  rw [View.read_writes_eq_canon _ _ _ (fun y => cover0_B_8 (y := y) ..)]
  unfold kernelRun0_B
  dsimp only
  sl_unfold_words
  rw [View.canon_unit_zero hz3]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S2048x256) hz, View.ld_unit_zero (S := S1024x256) hz, View.ld_unit_zero (S := S1x1024) hz,
    View.ld_unit_zero (S := S1x256) hz, View.ld_unit_zero (S := S1x1x2048) hz3]
  rfl

/-- At the last point: the indices. -/
theorem idx_C (t : Fin cfg0.N) (h0 : ¬t.val % 8 = 0) (h1 : t.val % 8 = 7) :
    (outsAt0 m c t.val t.isLt).2.2.2.2.1 = atB m c idxB t := by
  rw [outsAt0_C m c t h0 h1]
  dsimp only
  unfold out0_C_8
  rw [View.read_writes_eq_canon _ _ _ (fun y => cover0_C_8 (y := y) ..)]
  unfold kernelRun0_C
  dsimp only
  sl_unfold_words
  rw [View.canon_unit_zero hz3]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S2048x256) hz, View.ld_unit_zero (S := S1024x256) hz, View.ld_unit_zero (S := S1x1024) hz,
    View.ld_unit_zero (S := S1x256) hz, View.ld_unit_zero (S := S1x1x2048) hz3]
  rfl

/-- At the first point: the counts. -/
theorem cnt_A (t : Fin cfg0.N) (h0 : t.val % 8 = 0) (h1 : ¬t.val % 8 = 7) :
    (outsAt0 m c t.val t.isLt).2.2.2.2.2.1 = atB m c cntB t k0_pay11 := by
  rw [outsAt0_A m c t h0 h1]
  dsimp only
  unfold sout0_A_0
  rw [View.read_writes_eq_canon _ _ _ (fun y => scover0_A_0 (y := y) ..)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S2048x256) hz, View.ld_unit_zero (S := S1024x256) hz, View.ld_unit_zero (S := S1x1024) hz,
    View.ld_unit_zero (S := S1x256) hz, View.ld_unit_zero (S := S1x1x2048) hz3]
  rfl

/-- At a middle point: the counts. -/
theorem cnt_B (t : Fin cfg0.N) (h0 : ¬t.val % 8 = 0) (h1 : ¬t.val % 8 = 7) :
    (outsAt0 m c t.val t.isLt).2.2.2.2.2.1 = atB m c cntB t (outsAt0 m c (t.val - 1) (Nat.lt_of_le_of_lt (Nat.sub_le _ _) t.isLt)).2.2.2.2.2.1 := by
  rw [outsAt0_B m c t h0 h1]
  dsimp only
  unfold sout0_B_0
  rw [View.read_writes_eq_canon _ _ _ (fun y => scover0_B_0 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S2048x256) hz, View.ld_unit_zero (S := S1024x256) hz, View.ld_unit_zero (S := S1x1024) hz,
    View.ld_unit_zero (S := S1x256) hz, View.ld_unit_zero (S := S1x1x2048) hz3]
  rfl

/-- At the last point: the counts. -/
theorem cnt_C (t : Fin cfg0.N) (h0 : ¬t.val % 8 = 0) (h1 : t.val % 8 = 7) :
    (outsAt0 m c t.val t.isLt).2.2.2.2.2.1 = atB m c cntB t (outsAt0 m c (t.val - 1) (Nat.lt_of_le_of_lt (Nat.sub_le _ _) t.isLt)).2.2.2.2.2.1 := by
  rw [outsAt0_C m c t h0 h1]
  dsimp only
  unfold sout0_C_0
  rw [View.read_writes_eq_canon _ _ _ (fun y => scover0_C_0 (y := y) ..)]
  unfold kernelRun0_C
  dsimp only
  sl_unfold_words
  rw [View.canon_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S2048x256) hz, View.ld_unit_zero (S := S1024x256) hz, View.ld_unit_zero (S := S1x1024) hz,
    View.ld_unit_zero (S := S1x256) hz, View.ld_unit_zero (S := S1x1x2048) hz3]
  rfl

/-- At the first point: the sums. -/
theorem sq_A (t : Fin cfg0.N) (h0 : t.val % 8 = 0) (h1 : ¬t.val % 8 = 7) :
    (outsAt0 m c t.val t.isLt).2.2.2.2.2.2 = atB m c sqB t k0_pay12 := by
  rw [outsAt0_A m c t h0 h1]
  dsimp only
  unfold sout0_A_1
  rw [View.read_writes_eq_canon _ _ _ (fun y => scover0_A_1 (y := y) ..)]
  unfold kernelRun0_A
  dsimp only
  sl_unfold_words
  rw [View.canon_cons_unit_zero (S := S1x256) hz, View.readCov_unit_zero (S := S1x256) _ hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S2048x256) hz, View.ld_unit_zero (S := S1024x256) hz, View.ld_unit_zero (S := S1x1024) hz,
    View.ld_unit_zero (S := S1x256) hz, View.ld_unit_zero (S := S1x1x2048) hz3]
  rfl

/-- At a middle point: the sums. -/
theorem sq_B (t : Fin cfg0.N) (h0 : ¬t.val % 8 = 0) (h1 : ¬t.val % 8 = 7) :
    (outsAt0 m c t.val t.isLt).2.2.2.2.2.2 = atB m c sqB t (outsAt0 m c (t.val - 1) (Nat.lt_of_le_of_lt (Nat.sub_le _ _) t.isLt)).2.2.2.2.2.2 := by
  rw [outsAt0_B m c t h0 h1]
  dsimp only
  unfold sout0_B_1
  rw [View.read_writes_eq_canon _ _ _ (fun y => scover0_B_1 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S2048x256) hz, View.ld_unit_zero (S := S1024x256) hz, View.ld_unit_zero (S := S1x1024) hz,
    View.ld_unit_zero (S := S1x256) hz, View.ld_unit_zero (S := S1x1x2048) hz3]
  rfl

/-- At the last point: the sums. -/
theorem sq_C (t : Fin cfg0.N) (h0 : ¬t.val % 8 = 0) (h1 : t.val % 8 = 7) :
    (outsAt0 m c t.val t.isLt).2.2.2.2.2.2 = atB m c sqB t (outsAt0 m c (t.val - 1) (Nat.lt_of_le_of_lt (Nat.sub_le _ _) t.isLt)).2.2.2.2.2.2 := by
  rw [outsAt0_C m c t h0 h1]
  dsimp only
  unfold sout0_C_1
  rw [View.read_writes_eq_canon _ _ _ (fun y => scover0_C_1 (y := y) ..)]
  unfold kernelRun0_C
  dsimp only
  sl_unfold_words
  rw [View.canon_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S2048x256) hz, View.ld_unit_zero (S := S1024x256) hz, View.ld_unit_zero (S := S1x1024) hz,
    View.ld_unit_zero (S := S1x256) hz, View.ld_unit_zero (S := S1x1x2048) hz3]
  rfl

/-- At the last point: the loss window. -/
theorem loss_C (t : Fin cfg0.N) (h0 : ¬t.val % 8 = 0) (h1 : t.val % 8 = 7) :
    (outsAt0 m c t.val t.isLt).1 = k0_pay7 (atB m c sqB t (outsAt0 m c (t.val - 1) (Nat.lt_of_le_of_lt (Nat.sub_le _ _) t.isLt)).2.2.2.2.2.2) := by
  rw [outsAt0_C m c t h0 h1]
  dsimp only
  unfold out0_C_4
  rw [View.read_writes_eq_canon _ _ _ (fun y => cover0_C_4 (y := y) ..)]
  unfold kernelRun0_C
  dsimp only
  sl_unfold_words
  rw [View.canon_unit_zero hz, View.readCov_unit_zero (S := S1x256) _ hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S2048x256) hz, View.ld_unit_zero (S := S1024x256) hz, View.ld_unit_zero (S := S1x1024) hz,
    View.ld_unit_zero (S := S1x256) hz, View.ld_unit_zero (S := S1x1x2048) hz3]
  rfl

/-- At the last point: the perplexity window. -/
theorem ppl_C (t : Fin cfg0.N) (h0 : ¬t.val % 8 = 0) (h1 : t.val % 8 = 7) :
    (outsAt0 m c t.val t.isLt).2.2.1 = k0_pay8 (atB m c cntB t (outsAt0 m c (t.val - 1) (Nat.lt_of_le_of_lt (Nat.sub_le _ _) t.isLt)).2.2.2.2.2.1) := by
  rw [outsAt0_C m c t h0 h1]
  dsimp only
  unfold out0_C_6
  rw [View.read_writes_eq_canon _ _ _ (fun y => cover0_C_6 (y := y) ..)]
  unfold kernelRun0_C
  dsimp only
  sl_unfold_words
  rw [View.canon_unit_zero hz, View.readCov_unit_zero (S := S1x1024) _ hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S2048x256) hz, View.ld_unit_zero (S := S1024x256) hz, View.ld_unit_zero (S := S1x1024) hz,
    View.ld_unit_zero (S := S1x256) hz, View.ld_unit_zero (S := S1x1x2048) hz3]
  rfl

end Cert.Proof.Ker

end
-- ==== Proof.KerArr.lean ====
/- The kernel's five arrays after the region: every token's row lies in its block, and the two scalars come from the last point's running sums. -/
module

public import proofs.«01_k».proof.Proof.KerOuts
public import Idealize.ShloMosaic.Lib.ValueIdxCore

@[expose] public section

set_option maxRecDepth 16384

noncomputable section

namespace Cert.Proof.Ker

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (c : Dev nD)

/-- The grid's point `n`. -/
abbrev pt (n : ℕ) (h : n < 8) : Fin cfg0.N := ⟨n, h.trans_eq N_0.symm⟩

/-- The grid has eight points. -/
theorem lt8 (t : Fin cfg0.N) : t.val < 8 := t.isLt.trans_eq N_0

/-! ## What every point leaves -/

/-- At every point: the quantized vectors. -/
theorem zq_at (t : Fin cfg0.N) : (outsAt0 m c t.val t.isLt).2.1 = atB m c zqB t := by
  by_cases h0 : t.val % 8 = 0
  · exact zq_A m c t h0 (by omega)
  by_cases h1 : t.val % 8 = 7
  · exact zq_C m c t h0 h1
  · exact zq_B m c t h0 h1

/-- At every point: the encodings. -/
theorem enc_at (t : Fin cfg0.N) : (outsAt0 m c t.val t.isLt).2.2.2.1 = atB m c encB t := by
  by_cases h0 : t.val % 8 = 0
  · exact enc_A m c t h0 (by omega)
  by_cases h1 : t.val % 8 = 7
  · exact enc_C m c t h0 h1
  · exact enc_B m c t h0 h1

/-- At every point: the indices. -/
theorem idx_at (t : Fin cfg0.N) : (outsAt0 m c t.val t.isLt).2.2.2.2.1 = atB m c idxB t := by
  by_cases h0 : t.val % 8 = 0
  · exact idx_A m c t h0 (by omega)
  by_cases h1 : t.val % 8 = 7
  · exact idx_C m c t h0 h1
  · exact idx_B m c t h0 h1

/-- The counts after `n + 1` points. -/
def cntN : (n : ℕ) → n < 8 → Vec F S1x1024 .f32
  | 0, h => atB m c cntB (pt 0 h) k0_pay11
  | n + 1, h => atB m c cntB (pt (n + 1) h) (cntN n (by omega))

/-- The squared-difference sums after `n + 1` points. -/
def sqN : (n : ℕ) → n < 8 → Vec F S1x256 .f32
  | 0, h => atB m c sqB (pt 0 h) k0_pay12
  | n + 1, h => atB m c sqB (pt (n + 1) h) (sqN n (by omega))

/-- The first scratch holds the counts so far. -/
theorem cnt_at : ∀ (n : ℕ) (h : n < 8), (outsAt0 m c n (h.trans_eq N_0.symm)).2.2.2.2.2.1 = cntN m c n h
  | 0, h => cnt_A m c (pt 0 h) rfl (show ¬0 % 8 = 7 by decide)
  | n + 1, h => by
    have h0 : ¬(pt (n + 1) h).val % 8 = 0 := by show ¬(n + 1) % 8 = 0; omega
    by_cases h1 : (pt (n + 1) h).val % 8 = 7
    · exact (cnt_C m c (pt (n + 1) h) h0 h1).trans (congrArg (atB m c cntB (pt (n + 1) h)) (cnt_at n (by omega)))
    · exact (cnt_B m c (pt (n + 1) h) h0 h1).trans (congrArg (atB m c cntB (pt (n + 1) h)) (cnt_at n (by omega)))

/-- The second scratch holds the sums so far. -/
theorem sq_at : ∀ (n : ℕ) (h : n < 8), (outsAt0 m c n (h.trans_eq N_0.symm)).2.2.2.2.2.2 = sqN m c n h
  | 0, h => sq_A m c (pt 0 h) rfl (show ¬0 % 8 = 7 by decide)
  | n + 1, h => by
    have h0 : ¬(pt (n + 1) h).val % 8 = 0 := by show ¬(n + 1) % 8 = 0; omega
    by_cases h1 : (pt (n + 1) h).val % 8 = 7
    · exact (sq_C m c (pt (n + 1) h) h0 h1).trans (congrArg (atB m c sqB (pt (n + 1) h)) (sq_at n (by omega)))
    · exact (sq_B m c (pt (n + 1) h) h0 h1).trans (congrArg (atB m c sqB (pt (n + 1) h)) (sq_at n (by omega)))

/-- The last point's loss. -/
theorem loss_last (t : Fin cfg0.N) (ht : t.val % 8 = 7) :
    (outsAt0 m c t.val t.isLt).1 = k0_pay7 (sqN m c 7 (by decide)) := by
  have h8 := lt8 t
  obtain rfl : t = pt 7 (by decide) := Fin.ext (show t.val = 7 by omega)
  exact (loss_C m c (pt 7 (by decide)) (by decide) (by decide)).trans
    (congrArg (fun s => k0_pay7 (atB m c sqB (pt 7 (by decide)) s)) (sq_at m c 6 (by decide)))

/-- The last point's perplexity. -/
theorem ppl_last (t : Fin cfg0.N) (ht : t.val % 8 = 7) :
    (outsAt0 m c t.val t.isLt).2.2.1 = k0_pay8 (cntN m c 7 (by decide)) := by
  have h8 := lt8 t
  obtain rfl : t = pt 7 (by decide) := Fin.ext (show t.val = 7 by omega)
  exact (ppl_C m c (pt 7 (by decide)) (by decide) (by decide)).trans
    (congrArg (fun s => k0_pay8 (atB m c cntB (pt 7 (by decide)) s)) (cnt_at m c 6 (by decide)))

/-! ## The arrays after the region -/

attribute [local irreducible] encB zqB idxB cntB sqB

/-- The quantized vectors of all tokens: each in its block. -/
def G5 : Buf (Elt F) ((c : Thread nD τ).loc main_call0_v9_1) := fun (i : S16384x256.Idx) =>
  atB m c zqB (pt ((i 0).val / 2048) (Nat.div_lt_of_lt_mul (i 0).isLt))
    (ix2 ⟨(i 0).val % 2048, Nat.mod_lt _ (by decide)⟩ ⟨(i 1).val, (i 1).isLt⟩)

/-- The array at a place of a point's block. -/
theorem G5_of (t : Fin cfg0.N) (y : S2048x256.Idx) (i : S16384x256.Idx)
    (h0 : (i 0).val = t.val * 2048 + (y 0).val) (h1 : (i 1).val = (y 1).val) : G5 m c i = atB m c zqB t y := by
  have h8 := lt8 t
  have hy0 : (y 0).val < 2048 := (y 0).isLt
  have hp : pt ((i 0).val / 2048) (Nat.div_lt_of_lt_mul (i 0).isLt) = t := Fin.ext (by dsimp only; omega)
  have hl : (ix2 ⟨(i 0).val % 2048, Nat.mod_lt _ (by decide)⟩ ⟨(i 1).val, (i 1).isLt⟩ : S2048x256.Idx) = y := by
    funext a; apply Fin.ext
    match a with
    | ⟨0, _⟩ => show (i 0).val % 2048 = (y 0).val; omega
    | ⟨1, _⟩ => exact h1
  unfold G5
  rw [hp, hl]

/-- Window 5's block at a point is the point's rows. -/
theorem ix_5 : ∀ t : Fin cfg0.N, win0_5.index t (0 : Fin 2) = t.val ∧ win0_5.index t (1 : Fin 2) = 0 :=
  (by decide +kernel : ∀ t : Fin grid0.N, _)

/-- A block cut to the array is a read of the array, when the two agree place by place. -/
theorem cut_5 (t : Fin cfg0.N) (X : Vec F S2048x256 .f32) (Y : Buf (Elt F) ((c : Thread nD τ).loc main_call0_v9_1))
    (h : ∀ y, X ((cfg0.win 5).xinj (grid0.coords t) y) = Y (((cfg0.win 5).blk t).view.emb y)) :
    (cfg0.win 5).cut (grid0.coords t) X = ((cfg0.win 5).blk t).view.read (Elt F) Y := funext h

/-- What a point writes back is its block of the array. -/
theorem flushed_5 (t : Fin cfg0.N) (_ : (cfg0.win 5).flush t = true) :
    (dats m 0 c).flushed 5 t = ((cfg0.win 5).blk t).view.read (Elt F) (G5 m c) := by
  show (cfg0.win 5).cut (grid0.coords t) ((dats m 0 c).after 5 t) = _
  rw [after0_5, zq_at]
  obtain ⟨e0, e1⟩ := ix_5 t
  have h8 := lt8 t
  refine cut_5 c t _ _ fun y => ?_
  have hy0 : (y 0).val < 2048 := (y 0).isLt
  have hb0 : (((cfg0.win 5).blk t).view.emb y 0).val = win0_5.index t (0 : Fin 2) * 2048 + 1 * (y 0).val := rfl
  have hb1 : (((cfg0.win 5).blk t).view.emb y 1).val = win0_5.index t (1 : Fin 2) * 256 + 1 * (y 1).val := rfl
  exact (G5_of m c t ((cfg0.win 5).xinj (grid0.coords t) y) (((cfg0.win 5).blk t).view.emb y)
    (by rw [hb0, e0]; show _ = t.val * 2048 + (y 0).val; omega) (by rw [hb1, e1]; show _ = (y 1).val; omega)).symm

/-- A place of the array is in a point's block when each coordinate is in the block's range. -/
theorem mem_5 (t : Fin cfg0.N) (i : S16384x256.Idx) :
    i ∈ ((cfg0.win 5).blk t).view.set ↔ ∀ a : Fin 2, win0_5.index t a * S2048x256.size a ≤ (i a).val
      ∧ (i a).val < win0_5.index t a * S2048x256.size a + S2048x256.size a := by
  show i ∈ ((View.whole main_call0_v9_1).slice (win0_5.rect t)).set ↔ _
  rw [View.set_slice_whole, Rect.mem_set_unit]
  exact Iff.rfl

/-- The array ends holding the quantized vectors. -/
theorem final_5 : (dats m 0 c).arrAt 5 cfg0.N = G5 m c :=
  (dats m 0 c).arrAt_eq_of_cover 5 _ (flushed_5 m c) (fun (i : S16384x256.Idx) => by
    have hi0 : (i 0).val < 16384 := (i 0).isLt
    have hi1 : (i 1).val < 256 := (i 1).isLt
    obtain ⟨e0, e1⟩ := ix_5 (pt ((i 0).val / 2048) (by omega))
    refine ⟨pt ((i 0).val / 2048) (by omega), flush0_5 _, ?_⟩
    rw [mem_5]
    intro a
    match a with
    | ⟨0, _⟩ =>
      show win0_5.index _ (0 : Fin 2) * 2048 ≤ (i 0).val ∧ (i 0).val < win0_5.index _ (0 : Fin 2) * 2048 + 2048
      rw [e0]; dsimp only; omega
    | ⟨1, _⟩ =>
      show win0_5.index _ (1 : Fin 2) * 256 ≤ (i 1).val ∧ (i 1).val < win0_5.index _ (1 : Fin 2) * 256 + 256
      rw [e1]; omega)

/-- The encodings of all tokens: each in its block. -/
def G7 : Buf (Elt F) ((c : Thread nD τ).loc main_v0_3) := fun (i : S16384x1024.Idx) =>
  atB m c encB (pt ((i 0).val / 2048) (Nat.div_lt_of_lt_mul (i 0).isLt))
    (ix2 ⟨(i 0).val % 2048, Nat.mod_lt _ (by decide)⟩ ⟨(i 1).val, (i 1).isLt⟩)

/-- The array at a place of a point's block. -/
theorem G7_of (t : Fin cfg0.N) (y : S2048x1024.Idx) (i : S16384x1024.Idx)
    (h0 : (i 0).val = t.val * 2048 + (y 0).val) (h1 : (i 1).val = (y 1).val) : G7 m c i = atB m c encB t y := by
  have h8 := lt8 t
  have hy0 : (y 0).val < 2048 := (y 0).isLt
  have hp : pt ((i 0).val / 2048) (Nat.div_lt_of_lt_mul (i 0).isLt) = t := Fin.ext (by dsimp only; omega)
  have hl : (ix2 ⟨(i 0).val % 2048, Nat.mod_lt _ (by decide)⟩ ⟨(i 1).val, (i 1).isLt⟩ : S2048x1024.Idx) = y := by
    funext a; apply Fin.ext
    match a with
    | ⟨0, _⟩ => show (i 0).val % 2048 = (y 0).val; omega
    | ⟨1, _⟩ => exact h1
  unfold G7
  rw [hp, hl]

/-- Window 7's block at a point is the point's rows. -/
theorem ix_7 : ∀ t : Fin cfg0.N, win0_7.index t (0 : Fin 2) = t.val ∧ win0_7.index t (1 : Fin 2) = 0 :=
  (by decide +kernel : ∀ t : Fin grid0.N, _)

/-- A block cut to the array is a read of the array, when the two agree place by place. -/
theorem cut_7 (t : Fin cfg0.N) (X : Vec F S2048x1024 .f32) (Y : Buf (Elt F) ((c : Thread nD τ).loc main_v0_3))
    (h : ∀ y, X ((cfg0.win 7).xinj (grid0.coords t) y) = Y (((cfg0.win 7).blk t).view.emb y)) :
    (cfg0.win 7).cut (grid0.coords t) X = ((cfg0.win 7).blk t).view.read (Elt F) Y := funext h

/-- What a point writes back is its block of the array. -/
theorem flushed_7 (t : Fin cfg0.N) (_ : (cfg0.win 7).flush t = true) :
    (dats m 0 c).flushed 7 t = ((cfg0.win 7).blk t).view.read (Elt F) (G7 m c) := by
  show (cfg0.win 7).cut (grid0.coords t) ((dats m 0 c).after 7 t) = _
  rw [after0_7, enc_at]
  obtain ⟨e0, e1⟩ := ix_7 t
  have h8 := lt8 t
  refine cut_7 c t _ _ fun y => ?_
  have hy0 : (y 0).val < 2048 := (y 0).isLt
  have hb0 : (((cfg0.win 7).blk t).view.emb y 0).val = win0_7.index t (0 : Fin 2) * 2048 + 1 * (y 0).val := rfl
  have hb1 : (((cfg0.win 7).blk t).view.emb y 1).val = win0_7.index t (1 : Fin 2) * 1024 + 1 * (y 1).val := rfl
  exact (G7_of m c t ((cfg0.win 7).xinj (grid0.coords t) y) (((cfg0.win 7).blk t).view.emb y)
    (by rw [hb0, e0]; show _ = t.val * 2048 + (y 0).val; omega) (by rw [hb1, e1]; show _ = (y 1).val; omega)).symm

/-- A place of the array is in a point's block when each coordinate is in the block's range. -/
theorem mem_7 (t : Fin cfg0.N) (i : S16384x1024.Idx) :
    i ∈ ((cfg0.win 7).blk t).view.set ↔ ∀ a : Fin 2, win0_7.index t a * S2048x1024.size a ≤ (i a).val
      ∧ (i a).val < win0_7.index t a * S2048x1024.size a + S2048x1024.size a := by
  show i ∈ ((View.whole main_v0_3).slice (win0_7.rect t)).set ↔ _
  rw [View.set_slice_whole, Rect.mem_set_unit]
  exact Iff.rfl

/-- The array ends holding the encodings. -/
theorem final_7 : (dats m 0 c).arrAt 7 cfg0.N = G7 m c :=
  (dats m 0 c).arrAt_eq_of_cover 7 _ (flushed_7 m c) (fun (i : S16384x1024.Idx) => by
    have hi0 : (i 0).val < 16384 := (i 0).isLt
    have hi1 : (i 1).val < 1024 := (i 1).isLt
    obtain ⟨e0, e1⟩ := ix_7 (pt ((i 0).val / 2048) (by omega))
    refine ⟨pt ((i 0).val / 2048) (by omega), flush0_7 _, ?_⟩
    rw [mem_7]
    intro a
    match a with
    | ⟨0, _⟩ =>
      show win0_7.index _ (0 : Fin 2) * 2048 ≤ (i 0).val ∧ (i 0).val < win0_7.index _ (0 : Fin 2) * 2048 + 2048
      rw [e0]; dsimp only; omega
    | ⟨1, _⟩ =>
      show win0_7.index _ (1 : Fin 2) * 1024 ≤ (i 1).val ∧ (i 1).val < win0_7.index _ (1 : Fin 2) * 1024 + 1024
      rw [e1]; omega)

/-- The indices of all tokens: each in its block. -/
def G8 : Buf (Elt F) ((c : Thread nD τ).loc main_call0_v9_4) := fun (i : S8x1x2048.Idx) =>
  atB m c idxB (pt (i 0).val (i 0).isLt) (ix3 0 0 ⟨(i 2).val, (i 2).isLt⟩)

/-- The array at a place of a point's block. -/
theorem G8_of (t : Fin cfg0.N) (y : S1x1x2048.Idx) (i : S8x1x2048.Idx)
    (h0 : (i 0).val = t.val) (h2 : (i 2).val = (y 2).val) : G8 m c i = atB m c idxB t y := by
  have hy0 : (y 0).val < 1 := (y 0).isLt
  have hy1 : (y 1).val < 1 := (y 1).isLt
  have hp : pt (i 0).val (i 0).isLt = t := Fin.ext h0
  have hl : (ix3 0 0 ⟨(i 2).val, (i 2).isLt⟩ : S1x1x2048.Idx) = y := by
    funext a; apply Fin.ext
    match a with
    | ⟨0, _⟩ => show 0 = (y 0).val; omega
    | ⟨1, _⟩ => show 0 = (y 1).val; omega
    | ⟨2, _⟩ => exact h2
  unfold G8
  rw [hp, hl]

/-- Window 8's block at a point is the point's row. -/
theorem ix_8 : ∀ t : Fin cfg0.N, win0_8.index t (0 : Fin 3) = t.val ∧ win0_8.index t (1 : Fin 3) = 0
    ∧ win0_8.index t (2 : Fin 3) = 0 :=
  (by decide +kernel : ∀ t : Fin grid0.N, _)

/-- A block cut to the array is a read of the array, when the two agree place by place. -/
theorem cut_8 (t : Fin cfg0.N) (X : Vec F S1x1x2048 .i32) (Y : Buf (Elt F) ((c : Thread nD τ).loc main_call0_v9_4))
    (h : ∀ y, X ((cfg0.win 8).xinj (grid0.coords t) y) = Y (((cfg0.win 8).blk t).view.emb y)) :
    (cfg0.win 8).cut (grid0.coords t) X = ((cfg0.win 8).blk t).view.read (Elt F) Y := funext h

/-- What a point writes back is its block of the array. -/
theorem flushed_8 (t : Fin cfg0.N) (_ : (cfg0.win 8).flush t = true) :
    (dats m 0 c).flushed 8 t = ((cfg0.win 8).blk t).view.read (Elt F) (G8 m c) := by
  show (cfg0.win 8).cut (grid0.coords t) ((dats m 0 c).after 8 t) = _
  rw [after0_8, idx_at]
  obtain ⟨e0, e1, e2⟩ := ix_8 t
  have h8 := lt8 t
  refine cut_8 c t _ _ fun y => ?_
  have hy0 : (y 0).val < 1 := (y 0).isLt
  have hy1 : (y 1).val < 1 := (y 1).isLt
  have hb0 : (((cfg0.win 8).blk t).view.emb y 0).val = win0_8.index t (0 : Fin 3) * 1 + 1 * (y 0).val := rfl
  have hb2 : (((cfg0.win 8).blk t).view.emb y 2).val = win0_8.index t (2 : Fin 3) * 2048 + 1 * (y 2).val := rfl
  exact (G8_of m c t ((cfg0.win 8).xinj (grid0.coords t) y) (((cfg0.win 8).blk t).view.emb y)
    (by rw [hb0, e0]; omega) (by rw [hb2, e2]; show _ = (y 2).val; omega)).symm

/-- A place of the array is in a point's block when each coordinate is in the block's range. -/
theorem mem_8 (t : Fin cfg0.N) (i : S8x1x2048.Idx) :
    i ∈ ((cfg0.win 8).blk t).view.set ↔ ∀ a : Fin 3, win0_8.index t a * S1x1x2048.size a ≤ (i a).val
      ∧ (i a).val < win0_8.index t a * S1x1x2048.size a + S1x1x2048.size a := by
  show i ∈ ((View.whole main_call0_v9_4).slice (win0_8.rect t)).set ↔ _
  rw [View.set_slice_whole, Rect.mem_set_unit]
  exact Iff.rfl

/-- The array ends holding the indices. -/
theorem final_8 : (dats m 0 c).arrAt 8 cfg0.N = G8 m c :=
  (dats m 0 c).arrAt_eq_of_cover 8 _ (flushed_8 m c) (fun (i : S8x1x2048.Idx) => by
    have hi0 : (i 0).val < 8 := (i 0).isLt
    have hi1 : (i 1).val < 1 := (i 1).isLt
    have hi2 : (i 2).val < 2048 := (i 2).isLt
    obtain ⟨e0, e1, e2⟩ := ix_8 (pt (i 0).val hi0)
    refine ⟨pt (i 0).val hi0, flush0_8 _, ?_⟩
    rw [mem_8]
    intro a
    match a with
    | ⟨0, _⟩ =>
      show win0_8.index _ (0 : Fin 3) * 1 ≤ (i 0).val ∧ (i 0).val < win0_8.index _ (0 : Fin 3) * 1 + 1
      rw [e0]; dsimp only; omega
    | ⟨1, _⟩ =>
      show win0_8.index _ (1 : Fin 3) * 1 ≤ (i 1).val ∧ (i 1).val < win0_8.index _ (1 : Fin 3) * 1 + 1
      rw [e1]; omega
    | ⟨2, _⟩ =>
      show win0_8.index _ (2 : Fin 3) * 2048 ≤ (i 2).val ∧ (i 2).val < win0_8.index _ (2 : Fin 3) * 2048 + 2048
      rw [e2]; omega)

/-- The loss, of the whole grid. -/
def G4 : Buf (Elt F) ((c : Thread nD τ).loc main_call0_v9_0) := k0_pay7 (sqN m c 7 (by decide))

/-- Window 4 has one block. -/
theorem ix_4 : ∀ t : Fin cfg0.N, win0_4.index t (0 : Fin 2) = 0 ∧ win0_4.index t (1 : Fin 2) = 0 :=
  (by decide +kernel : ∀ t : Fin grid0.N, _)

/-- What the last point writes back is the array. -/
theorem flushed_4 (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4, loss_last m c t ((flush0_4 t).mp hf)]
  obtain ⟨e0, e1⟩ := ix_4 t
  funext y
  have hb0 : (((cfg0.win 4).blk t).view.emb y 0).val = win0_4.index t (0 : Fin 2) * 1 + 1 * (y 0).val := rfl
  have hb1 : (((cfg0.win 4).blk t).view.emb y 1).val = win0_4.index t (1 : Fin 2) * 1 + 1 * (y 1).val := rfl
  show k0_pay7 (sqN m c 7 _) ((cfg0.win 4).xinj (grid0.coords t) y) = G4 m c (((cfg0.win 4).blk t).view.emb y)
  unfold G4
  refine congrArg (k0_pay7 (sqN m c 7 (by decide)) : S1x1.Idx → _) ?_
  funext a; apply Fin.ext
  match a with
  | ⟨0, _⟩ => show (y 0).val = (((cfg0.win 4).blk t).view.emb y 0).val; rw [hb0]; omega
  | ⟨1, _⟩ => show (y 1).val = (((cfg0.win 4).blk t).view.emb y 1).val; rw [hb1]; omega

/-- A place of the array is in a point's block when each coordinate is in the block's range. -/
theorem mem_4 (t : Fin cfg0.N) (i : S1x1.Idx) :
    i ∈ ((cfg0.win 4).blk t).view.set ↔ ∀ a : Fin 2, win0_4.index t a * S1x1.size a ≤ (i a).val
      ∧ (i a).val < win0_4.index t a * S1x1.size a + S1x1.size a := by
  show i ∈ ((View.whole main_call0_v9_0).slice (win0_4.rect t)).set ↔ _
  rw [View.set_slice_whole, Rect.mem_set_unit]
  exact Iff.rfl

/-- The array ends holding the loss. -/
theorem final_4 : (dats m 0 c).arrAt 4 cfg0.N = G4 m c :=
  (dats m 0 c).arrAt_eq_of_cover 4 _ (flushed_4 m c) (fun (i : S1x1.Idx) => by
    have hi0 : (i 0).val < 1 := (i 0).isLt
    have hi1 : (i 1).val < 1 := (i 1).isLt
    obtain ⟨e0, e1⟩ := ix_4 (pt 7 (by decide))
    refine ⟨pt 7 (by decide), (flush0_4 _).mpr (by decide), ?_⟩
    rw [mem_4]
    intro a
    match a with
    | ⟨0, _⟩ =>
      show win0_4.index _ (0 : Fin 2) * 1 ≤ (i 0).val ∧ (i 0).val < win0_4.index _ (0 : Fin 2) * 1 + 1
      rw [e0]; omega
    | ⟨1, _⟩ =>
      show win0_4.index _ (1 : Fin 2) * 1 ≤ (i 1).val ∧ (i 1).val < win0_4.index _ (1 : Fin 2) * 1 + 1
      rw [e1]; omega)

/-- The perplexity, of the whole grid. -/
def G6 : Buf (Elt F) ((c : Thread nD τ).loc main_call0_v9_2) := k0_pay8 (cntN m c 7 (by decide))

/-- Window 6 has one block. -/
theorem ix_6 : ∀ t : Fin cfg0.N, win0_6.index t (0 : Fin 2) = 0 ∧ win0_6.index t (1 : Fin 2) = 0 :=
  (by decide +kernel : ∀ t : Fin grid0.N, _)

/-- What the last point writes back is the array. -/
theorem flushed_6 (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, ppl_last m c t ((flush0_6 t).mp hf)]
  obtain ⟨e0, e1⟩ := ix_6 t
  funext y
  have hb0 : (((cfg0.win 6).blk t).view.emb y 0).val = win0_6.index t (0 : Fin 2) * 1 + 1 * (y 0).val := rfl
  have hb1 : (((cfg0.win 6).blk t).view.emb y 1).val = win0_6.index t (1 : Fin 2) * 1 + 1 * (y 1).val := rfl
  show k0_pay8 (cntN m c 7 _) ((cfg0.win 6).xinj (grid0.coords t) y) = G6 m c (((cfg0.win 6).blk t).view.emb y)
  unfold G6
  refine congrArg (k0_pay8 (cntN m c 7 (by decide)) : S1x1.Idx → _) ?_
  funext a; apply Fin.ext
  match a with
  | ⟨0, _⟩ => show (y 0).val = (((cfg0.win 6).blk t).view.emb y 0).val; rw [hb0]; omega
  | ⟨1, _⟩ => show (y 1).val = (((cfg0.win 6).blk t).view.emb y 1).val; rw [hb1]; omega

/-- A place of the array is in a point's block when each coordinate is in the block's range. -/
theorem mem_6 (t : Fin cfg0.N) (i : S1x1.Idx) :
    i ∈ ((cfg0.win 6).blk t).view.set ↔ ∀ a : Fin 2, win0_6.index t a * S1x1.size a ≤ (i a).val
      ∧ (i a).val < win0_6.index t a * S1x1.size a + S1x1.size a := by
  show i ∈ ((View.whole main_call0_v9_2).slice (win0_6.rect t)).set ↔ _
  rw [View.set_slice_whole, Rect.mem_set_unit]
  exact Iff.rfl

/-- The array ends holding the perplexity. -/
theorem final_6 : (dats m 0 c).arrAt 6 cfg0.N = G6 m c :=
  (dats m 0 c).arrAt_eq_of_cover 6 _ (flushed_6 m c) (fun (i : S1x1.Idx) => by
    have hi0 : (i 0).val < 1 := (i 0).isLt
    have hi1 : (i 1).val < 1 := (i 1).isLt
    obtain ⟨e0, e1⟩ := ix_6 (pt 7 (by decide))
    refine ⟨pt 7 (by decide), (flush0_6 _).mpr (by decide), ?_⟩
    rw [mem_6]
    intro a
    match a with
    | ⟨0, _⟩ =>
      show win0_6.index _ (0 : Fin 2) * 1 ≤ (i 0).val ∧ (i 0).val < win0_6.index _ (0 : Fin 2) * 1 + 1
      rw [e0]; omega
    | ⟨1, _⟩ =>
      show win0_6.index _ (1 : Fin 2) * 1 ≤ (i 1).val ∧ (i 1).val < win0_6.index _ (1 : Fin 2) * 1 + 1
      rw [e1]; omega)

end Cert.Proof.Ker

end
-- ==== Proof.KerRun.lean ====
/- The kernel's run: what the host computes before the region, what it computes after, and every result buffer at the end. -/
module

public import proofs.«01_k».proof.Proof.KerArr
public import Idealize.ShloMosaic.Lib.StableHlo.Run

@[expose] public section

set_option maxRecDepth 16384

noncomputable section

namespace Cert.Proof.Ker

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]

/-! ## What the host computes before the region -/

/-- The input as 16384 token vectors of 256 channels. -/
def zfH (x0 : Vec F S16x256x32x32 .f32) : Vec F S16384x256 .f32 :=
  shapeCast _ (transpose S16x32x32x256 [0, 2, 3, 1] x0 transposes_S16x256x32x32_S16x32x32x256_0_2_3_1)
    shapeCasts_S16x32x32x256_S16384x256

/-- The squared norm of each token vector, a row of 2048 for each block. -/
def z2H (x0 : Vec F S16x256x32x32 .f32) : Vec F S8x1x2048 .f32 :=
  shapeCast _ (Host.reduceAdd (mulf x0 x0) (constant S_ .f32 0x00000000#32) reducesTo_S16x256x32x32_S16x32x32_d1 h_S_)
    shapeCasts_S16x32x32_S8x1x2048

/-- The squared norm of each codebook row. -/
def w2H (x1 : Vec F S1024x256 .f32) : Vec F S1x1024 .f32 :=
  shapeCast _ (Host.reduceAdd (mulf x1 x1) (constant S_ .f32 0x00000000#32) reducesTo_S1024x256_S1024_d1 h_S_)
    shapeCasts_S1024_S1x1024

/-- The codebook at the narrower format. -/
def wbH (x1 : Vec F S1024x256 .f32) : Vec F S1024x256 .bf16 := truncf .bf16 x1 bitsLt_bf16_f32

variable (m : (ℓ : Loc nD τ sig) → Buf (Elt F) ℓ) (c : Dev nD)

/-- Window 0's array is the token vectors. -/
theorem V_zf : V m c main_call0_v1 = zfH (m ((c : Thread nD τ).loc main_arg0)) := by
  show after hostOps0 _ (Proc.devRef .tc main_call0_v1) = _
  after_results_simp; rfl

/-- Window 1's array is their squared norms. -/
theorem V_z2 : V m c main_call0_v4 = z2H (m ((c : Thread nD τ).loc main_arg0)) := by
  show after hostOps0 _ (Proc.devRef .tc main_call0_v4) = _
  after_results_simp; rfl

/-- Window 2's array is the codebook. -/
theorem V_wb : V m c main_call0_v8 = wbH (m ((c : Thread nD τ).loc main_arg1)) := by
  show after hostOps0 _ (Proc.devRef .tc main_call0_v8) = _
  after_results_simp; rfl

/-- Window 3's array is the codebook's squared norms. -/
theorem V_w2 : V m c main_call0_v7 = w2H (m ((c : Thread nD τ).loc main_arg1)) := by
  show after hostOps0 _ (Proc.devRef .tc main_call0_v7) = _
  after_results_simp; rfl

/-! ## What the host computes after the region -/

section Tail
variable (V : Valuation τ sig (Elt F))

/-- The loss's last buffer is the region's, as a scalar. -/
theorem tail_0 : after hostOps1 V (Proc.devRef .tc main_v0_0)
    = shapeCast S_ (V (Proc.devRef .tc main_call0_v9_0)) shapeCasts_S1x1_S_ := by
  after_results_simp; rfl

/-- The quantized output is the region's array with the channels second. -/
theorem tail_1 : after hostOps1 V (Proc.devRef .tc main_v0_1)
    = transpose S16x256x32x32 [0, 3, 1, 2]
        (shapeCast S16x32x32x256 (V (Proc.devRef .tc main_call0_v9_1)) shapeCasts_S16384x256_S16x32x32x256)
        transposes_S16x32x32x256_S16x256x32x32_0_3_1_2 := by
  after_results_simp; rfl

/-- The perplexity's last buffer is the region's, as a scalar. -/
theorem tail_2 : after hostOps1 V (Proc.devRef .tc main_v0_2)
    = shapeCast S_ (V (Proc.devRef .tc main_call0_v9_2)) shapeCasts_S1x1_S_ := by
  after_results_simp; rfl

/-- The indices are the region's, as a column. -/
theorem tail_4 : after hostOps1 V (Proc.devRef .tc main_v0_4)
    = shapeCast S16384x1 (V (Proc.devRef .tc main_call0_v9_4)) shapeCasts_S8x1x2048_S16384x1 := by
  after_results_simp; rfl
end Tail

/-- The windows' arrays are distinct. -/
theorem arr_inj : Function.Injective (Pipeline.arrRef (cfgs 0).spec) :=
  (by decide : ∀ a b, Pipeline.arrRef spec0 a = Pipeline.arrRef spec0 b → a = b)

/-- The valuation after the region, at a window's array. -/
theorem arr_after (w : Fin cfg0.W) : Pipeline.withArrays (cfgs 0).spec c (V0 m c) (fun w => (dats m 0 c).arrAt w (cfgs 0).N)
    (Proc.devRef .tc (Pipeline.arrRef (cfgs 0).spec w)) = (dats m 0 c).arrAt w cfg0.N :=
  Pipeline.withArrays_arr _ arr_inj c _ _ w

variable (ρ : Dev nD → PrngReg)

/-- The kernel's run: every result buffer from the blocks' values, the arguments untouched. -/
theorem run : θ_run defs (onTc (τ := τ) (main (F := F))) (s₀ m ρ) (fun r => ∀ c : Dev nD,
    r.2.mem ((c : Thread nD τ).loc main_v0_0) = shapeCast S_ (G4 m c) shapeCasts_S1x1_S_
    ∧ r.2.mem ((c : Thread nD τ).loc main_v0_1) = transpose S16x256x32x32 [0, 3, 1, 2]
        (shapeCast S16x32x32x256 (G5 m c) shapeCasts_S16384x256_S16x32x32x256)
        transposes_S16x32x32x256_S16x256x32x32_0_3_1_2
    ∧ r.2.mem ((c : Thread nD τ).loc main_v0_2) = shapeCast S_ (G6 m c) shapeCasts_S1x1_S_
    ∧ r.2.mem ((c : Thread nD τ).loc main_v0_3) = G7 m c
    ∧ r.2.mem ((c : Thread nD τ).loc main_v0_4) = shapeCast S16384x1 (G8 m c) shapeCasts_S8x1x2048_S16384x1
    ∧ r.2.mem ((c : Thread nD τ).loc main_arg0) = m ((c : Thread nD τ).loc main_arg0)
    ∧ r.2.mem ((c : Thread nD τ).loc main_arg1) = m ((c : Thread nD τ).loc main_arg1)) := by
  refine (θ_run defs _ _).mono (fun r h c => ?_) (run_main m ρ)
  obtain ⟨ha, hr⟩ := h c
  refine ⟨?_, ?_, ?_, ?_, ?_, ?_, ?_⟩
  · refine (hr main_v0_0 (Pipeline.mem_restRefs_of main_v0_0 (by decide) (by decide))).trans ?_
    unfold Pipeline.afterTail₀
    refine (tail_0 _).trans ?_
    exact congrArg (shapeCast S_ · shapeCasts_S1x1_S_) ((arr_after m c 4).trans (final_4 m c))
  · refine (hr main_v0_1 (Pipeline.mem_restRefs_of main_v0_1 (by decide) (by decide))).trans ?_
    unfold Pipeline.afterTail₀
    refine (tail_1 _).trans ?_
    exact congrArg (fun x => transpose S16x256x32x32 [0, 3, 1, 2] (shapeCast S16x32x32x256 x shapeCasts_S16384x256_S16x32x32x256)
      transposes_S16x32x32x256_S16x256x32x32_0_3_1_2) ((arr_after m c 5).trans (final_5 m c))
  · refine (hr main_v0_2 (Pipeline.mem_restRefs_of main_v0_2 (by decide) (by decide))).trans ?_
    unfold Pipeline.afterTail₀
    refine (tail_2 _).trans ?_
    exact congrArg (shapeCast S_ · shapeCasts_S1x1_S_) ((arr_after m c 6).trans (final_6 m c))
  · exact (ha 7).trans (final_7 m c)
  · refine (hr main_v0_4 (Pipeline.mem_restRefs_of main_v0_4 (by decide) (by decide))).trans ?_
    unfold Pipeline.afterTail₀
    refine (tail_4 _).trans ?_
    exact congrArg (shapeCast S16384x1 · shapeCasts_S8x1x2048_S16384x1) ((arr_after m c 8).trans (final_8 m c))
  · exact (hr main_arg0 (Pipeline.mem_restRefs_of main_arg0 (by decide) (by decide))).trans (W_main_arg0 m (dats m) c)
  · exact (hr main_arg1 (Pipeline.mem_restRefs_of main_arg1 (by decide) (by decide))).trans (W_main_arg1 m (dats m) c)

end Cert.Proof.Ker

end
-- ==== Proof.Least.lean ====
/- The least entry of a row and where it first stands: what a fold that keeps the lesser of two returns, and the three folds
   the programs take over a row of distances. -/
module

public import proofs.«01_k».proof.Proof.Gen.ReferenceIdeal
public import proofs.«01_k».proof.Proof.Gen.KernelIdeal
public import Idealize.ShloMosaic.Lib.Pipeline.Value
public import Idealize.ShloMosaic.Lib.ValueIdx
public import Idealize.ShloMosaic.PureOps.Ideal.Laws

@[expose] public section

set_option maxRecDepth 16384

noncomputable section

namespace Cert.Proof

open Idealize.ShloMosaic Idealize.ShloMosaic.ValueIdx

/-! ## A fold that keeps the lesser -/

/-- A fold whose step returns one of its two operands, one that is below both, returns its start or an element of the list,
    and what it returns is below all of them. -/
theorem foldl_least {α : Type} (f : α → α → α) (le : α → α → Prop) (hrefl : ∀ a, le a a)
    (htrans : ∀ a b c, le a b → le b c → le a c) (hsel : ∀ a b, f a b = a ∨ f a b = b)
    (hl : ∀ a b, le (f a b) a) (hr : ∀ a b, le (f a b) b) : ∀ (L : List α) (z : α),
    (L.foldl f z = z ∨ L.foldl f z ∈ L) ∧ le (L.foldl f z) z ∧ ∀ x ∈ L, le (L.foldl f z) x
  | [], z => ⟨.inl rfl, hrefl z, fun _ h => absurd h List.not_mem_nil⟩
  | a :: L, z => by
    obtain ⟨h1, h2, h3⟩ := foldl_least f le hrefl htrans hsel hl hr L (f z a)
    refine ⟨?_, htrans _ _ _ h2 (hl z a), fun x hx => ?_⟩
    · rcases h1 with h1 | h1
      · rcases hsel z a with h | h
        · exact .inl (h1.trans h)
        · exact .inr (List.mem_cons.2 (.inl (h1.trans h)))
      · exact .inr (List.mem_cons_of_mem _ h1)
    · rcases List.mem_cons.1 hx with rfl | hx
      · exact htrans _ _ _ h2 (hr z x)
      · exact h3 x hx

/-! ## The first least entry -/

/-- `k` is where `f` first takes its least value. -/
def IsFirstLeast {n : ℕ} (f : Fin n → EReal) (k : Fin n) : Prop := (∀ j, f k ≤ f j) ∧ ∀ j, j < k → f k < f j

/-- There is such a place. -/
theorem exists_firstLeast (f : Fin 1024 → EReal) : ∃ k, IsFirstLeast f k := by
  obtain ⟨k0, h0⟩ := Finite.exists_min f
  have hne : {k | ∀ j, f k ≤ f j}.Nonempty := ⟨k0, h0⟩
  refine ⟨wellFounded_lt.min _ hne, wellFounded_lt.min_mem _ hne, fun j hj => ?_⟩
  have hn : ¬∀ i, f j ≤ f i := fun h => wellFounded_lt.not_lt_min {k | ∀ j, f k ≤ f j} h hj
  obtain ⟨i, hi⟩ := not_forall.1 hn
  exact lt_of_le_of_lt (wellFounded_lt.min_mem _ hne i) (not_le.1 hi)

/-- Where `f` first takes its least value. -/
def amin (f : Fin 1024 → EReal) : Fin 1024 := (exists_firstLeast f).choose

/-- The chosen place is where the row first takes its least value. -/
theorem amin_spec (f : Fin 1024 → EReal) : IsFirstLeast f (amin f) := (exists_firstLeast f).choose_spec

/-- A least place not after it is it. -/
theorem eq_amin (f : Fin 1024 → EReal) (k : Fin 1024) (h : f k ≤ f (amin f)) (hk : k ≤ amin f) : k = amin f := by
  rcases lt_or_eq_of_le hk with hlt | he
  · exact absurd ((amin_spec f).2 k hlt) (not_lt.2 h)
  · exact he

/-- A small index as a signed word. -/
theorem toInt_small {k : ℕ} (hk : k < 2 ^ 31) : (BitVec.ofNat 32 k).toInt = k := by
  rw [BitVec.toInt_eq_toNat_of_lt (by rw [BitVec.toNat_ofNat]; omega), BitVec.toNat_ofNat, Nat.mod_eq_of_lt (by omega)]

/-! ## The reference's fold over pairs -/

section Ref
open Cert.ReferenceIdeal

/-- Entry first, then index. -/
def pairLe (a b : EReal × BitVec 32) : Prop := a.1 < b.1 ∨ a.1 = b.1 ∧ a.2.toInt ≤ b.2.toInt

/-- One step of the reference's fold keeps the lesser pair. -/
theorem step_eq (a b : EReal × BitVec 32) : reducer_argmin_f32_i32 (F := Ideal) a b
    = if a.1 < b.1 ∨ a.1 = b.1 ∧ a.2.toInt < b.2.toInt then a else b := by
  obtain ⟨a1, a2⟩ := a
  obtain ⟨b1, b2⟩ := b
  unfold reducer_argmin_f32_i32
  dsimp only
  simp only [Ideal.cmpf_def, Ideal.cmp, IntOp.ori, IntOp.andi, IntOp.cmpi, Scalar.select, BitVec.slt]
  rcases lt_trichotomy a1 b1 with h | h | h
  · simp [h, h.ne]
  · subst h
    by_cases h2 : a2.toInt < b2.toInt <;> simp [h2]
  · simp [h, not_lt.2 h.le, h.ne']

/-- The pairs the fold at a row runs over are the row's entries with their columns. -/
theorem mem_fiber {D : FVec Ideal S16384x1024 .f32} {y : IVec S16384x1024 32} {h : S16384x1024.ReducesTo [1] S16384}
    {n : Fin 16384} {p : EReal × BitVec 32} : p ∈ Host.argReduceFiber D y h (ix1 n) ↔ ∃ k, p = (D (ix2 n k), y (ix2 n k)) := by
  have hd : ∀ i : S16384x1024.Idx, h.drop i = ix1 (i 0) := fun i => funext fun a => Fin.ext (by
    match a with
    | ⟨0, _⟩ => exact Shape.ReducesTo.drop_apply_val_of_eq h i 0 0)
  simp only [Host.argReduceFiber, List.mem_map, List.mem_filter, List.mem_finRange, true_and, decide_eq_true_eq]
  constructor
  · rintro ⟨q, hq, rfl⟩
    rw [hd] at hq
    have h0 : S16384x1024.rowMajor.symm q 0 = n := congrFun hq 0
    refine ⟨S16384x1024.rowMajor.symm q 1, ?_⟩
    have : (ix2 n (S16384x1024.rowMajor.symm q 1) : S16384x1024.Idx) = S16384x1024.rowMajor.symm q := by
      rw [← h0]; exact (eq_ix2 _).symm
    rw [this]
  · rintro ⟨k, rfl⟩
    refine ⟨S16384x1024.rowMajor (ix2 n k), ?_, ?_⟩
    · rw [Equiv.symm_apply_apply, hd]; rfl
    · rw [Equiv.symm_apply_apply]

/-- The fold's index at a row is where the row first takes its least value. -/
theorem argReduce_least (D : FVec Ideal S16384x1024 .f32) (h : S16384x1024.ReducesTo [1] S16384) (hu : 0 < S_.numel) (n : Fin 16384) :
    (Host.argReduce reducer_argmin_f32_i32 D (iotaInDim S16384x1024 32 1) (constant S_ .f32 0x7F800000#32)
      (constantI S_ 32 0#32) h hu (ix1 n)).2 = BitVec.ofNat 32 (amin fun k => D (ix2 n k)).val := by
  rw [Ideal.argReduce_eq_reduce2, Host.reduce2_eq_foldl_fiber]
  have hinit : (constant (F := Ideal) S_ .f32 0x7F800000#32 (Shape.Idx.first hu) : EReal) = ⊤ := by
    show Ideal.ofBits .f32 0x7F800000#32 = ⊤
    simp [Ideal.ofBits, Ideal.ieee]
  obtain ⟨h1, h2, h3⟩ := foldl_least (reducer_argmin_f32_i32 (F := Ideal)) pairLe (fun a => .inr ⟨rfl, le_rfl⟩)
    (by
      rintro a b c (h | ⟨h, h'⟩) (g | ⟨g, g'⟩)
      · exact .inl (h.trans g)
      · exact .inl (g ▸ h)
      · exact .inl (h ▸ g)
      · exact .inr ⟨h.trans g, h'.trans g'⟩)
    (fun a b => by rw [step_eq]; split <;> simp)
    (fun a b => by
      rw [step_eq]; split
      · exact .inr ⟨rfl, le_rfl⟩
      · rename_i hn
        rcases lt_trichotomy a.1 b.1 with h | h | h
        · exact absurd (.inl h) hn
        · exact .inr ⟨h.symm, not_lt.1 fun q => hn (.inr ⟨h, q⟩)⟩
        · exact .inl h)
    (fun a b => by
      rw [step_eq]; split
      · rename_i hp
        rcases hp with h | ⟨h, h'⟩
        · exact .inl h
        · exact .inr ⟨h, h'.le⟩
      · exact .inr ⟨rfl, le_rfl⟩)
    (Host.argReduceFiber D (iotaInDim S16384x1024 32 1) h (ix1 n))
    (constant (F := Ideal) S_ .f32 0x7F800000#32 (Shape.Idx.first hu), constantI S_ 32 0#32 (Shape.Idx.first hu))
  generalize List.foldl _ _ _ = r at h1 h2 h3 ⊢
  have hy : ∀ k : Fin 1024, iotaInDim S16384x1024 32 1 (ix2 n k) = BitVec.ofNat 32 k.val := fun k => rfl
  have hall : ∀ k : Fin 1024, pairLe r (D (ix2 n k), BitVec.ofNat 32 k.val) := fun k =>
    hy k ▸ h3 _ (mem_fiber.2 ⟨k, rfl⟩)
  have hr : ∃ k : Fin 1024, r = (D (ix2 n k), BitVec.ofNat 32 k.val) := by
    rcases h1 with h1 | h1
    · refine ⟨0, ?_⟩
      have := hall 0
      rw [h1] at this ⊢
      rw [hinit] at this ⊢
      rcases this with h | ⟨h, -⟩
      · exact absurd h not_top_lt
      · exact Prod.ext h rfl
    · obtain ⟨k, hk⟩ := mem_fiber.1 h1
      exact ⟨k, hk.trans (by rw [hy])⟩
  obtain ⟨k, rfl⟩ := hr
  set a := amin fun k => D (ix2 n k) with ha
  have hk : k = a := by
    have := hall a
    refine eq_amin (fun k => D (ix2 n k)) k ?_ ?_
    · rcases this with h | ⟨h, -⟩
      · exact h.le
      · exact h.le
    · rcases this with h | ⟨-, h⟩
      · exact absurd h (not_lt.2 ((amin_spec fun k => D (ix2 n k)).1 k))
      · rw [toInt_small (by omega), toInt_small (by omega)] at h
        exact Fin.le_def.2 (by omega)
  rw [hk]
end Ref

/-! ## The kernel's two folds -/

section Ker
open Cert.KernelIdeal

/-- The indices a row's reduction runs over. -/
theorem drop_row (h : S2048x1024.Reduces [1] S2048) (i : S2048x1024.Idx) : h.drop i = ix1 (i 0) :=
  funext fun a => Fin.ext (by
    match a with
    | ⟨0, _⟩ => exact Shape.Reduces.drop_apply_val_of_eq h i 0 0)

/-- What a row's reduction by a fold that keeps the lesser returns. -/
theorem reduceFold_row {α : Type} (h : S2048x1024.Reduces [1] S2048) (f : α → α → α) (le : α → α → Prop) (hrefl : ∀ a, le a a)
    (htrans : ∀ a b c, le a b → le b c → le a c) (hsel : ∀ a b, f a b = a ∨ f a b = b)
    (hl : ∀ a b, le (f a b) a) (hr : ∀ a b, le (f a b) b) (z : α) (x : S2048x1024.Idx → α) (p : Fin 2048) :
    (reduceFold h f z x (ix1 p) = z ∨ ∃ k, reduceFold h f z x (ix1 p) = x (ix2 p k))
      ∧ ∀ k, le (reduceFold h f z x (ix1 p)) (x (ix2 p k)) := by
  rw [reduceFold_eq_foldl, ← List.foldl_map]
  obtain ⟨h1, -, h3⟩ := foldl_least f le hrefl htrans hsel hl hr
    ((((List.finRange S2048x1024.numel).map S2048x1024.rowMajor.symm).filter fun i => h.drop i = ix1 p).map x) z
  refine ⟨h1.imp id fun h1 => ?_, fun k => h3 _ ?_⟩
  · obtain ⟨i, hi, he⟩ := List.mem_map.1 h1
    have hi := of_decide_eq_true (List.mem_filter.1 hi).2
    rw [drop_row] at hi
    have h0 : i 0 = p := congrFun hi 0
    refine ⟨i 1, he.symm.trans (congrArg x ?_)⟩
    rw [← h0]; exact eq_ix2 i
  · refine List.mem_map.2 ⟨ix2 p k, List.mem_filter.2 ⟨List.mem_map.2 ⟨S2048x1024.rowMajor (ix2 p k), List.mem_finRange _,
      Equiv.symm_apply_apply _ _⟩, decide_eq_true ?_⟩, rfl⟩
    rw [drop_row]; rfl

/-- A row's minimum is the entry at its first least place. -/
theorem minf_row (x : FVec Ideal S2048x1024 .f32) (h : S2048x1024.Reduces [1] S2048) (hφ : FKind.Formats .f32)
    (hacc : (0x7F800000#32 : BitVec 32) = FKind.minimumf.neutral .f32 hφ) (p : Fin 2048) :
    multiReduction .minimumf [1] S2048 x 0x7F800000#32 h hφ hacc (ix1 p) = x (ix2 p (amin fun k => x (ix2 p k))) := by
  rw [multiReduction_minimumf_eq_reduceFold]
  obtain ⟨h1, h2⟩ := reduceFold_row h (FloatOps.minimumf (F := Ideal) (φ := .f32)) (fun a b : EReal => a ≤ b) le_refl
    (fun _ _ _ => le_trans) (fun a b => min_choice a b) (fun a b => min_le_left a b) (fun a b => min_le_right a b)
    (FloatOps.ofBits .f32 0x7F800000#32) x p
  have hs := (amin_spec fun k => x (ix2 p k)).1
  refine le_antisymm (h2 _) ?_
  rcases h1 with h1 | ⟨k, h1⟩
  · rw [h1]
    have : (FloatOps.ofBits (F := Ideal) .f32 0x7F800000#32 : EReal) = ⊤ := by
      show Ideal.ofBits .f32 0x7F800000#32 = ⊤
      simp [Ideal.ofBits, Ideal.ieee]
    rw [this]; exact le_top
  · rw [h1]; exact hs k

/-- The signed minimum by the words' values. -/
theorem minsi_eq (a b : BitVec 32) : IKind.minsi.op a b = if a.toInt < b.toInt then a else b := by
  simp [IKind.op, IntOp.minsi, BitVec.slt]

/-- The least of the words that hold the column where the row takes its least value and 1024 elsewhere is the first least
    place. -/
theorem minsi_row (f : Fin 1024 → EReal) (w : IVec S2048x1024 32) (h : S2048x1024.Reduces [1] S2048)
    (hacc : (2147483647#32 : BitVec 32) = IKind.minsi.neutral) (p : Fin 2048)
    (hw : ∀ k, w (ix2 p k) = if f k = f (amin f) then BitVec.ofNat 32 k.val else 1024#32) :
    multiReductionI .minsi [1] S2048 w 2147483647#32 h hacc (ix1 p) = BitVec.ofNat 32 (amin f).val := by
  rw [multiReductionI_eq_reduceFold]
  obtain ⟨h1, h2⟩ := reduceFold_row h IKind.minsi.op (fun a b => a.toInt ≤ b.toInt) (fun a => le_refl a.toInt)
    (fun _ _ _ => le_trans) (fun a b => by rw [minsi_eq]; split <;> simp)
    (fun a b => by rw [minsi_eq]; split <;> omega) (fun a b => by rw [minsi_eq]; split <;> omega) 2147483647#32 w p
  have ha := h2 (amin f)
  rw [hw, if_pos rfl, toInt_small (by omega)] at ha
  have hlt := (amin f).isLt
  rcases h1 with h1 | ⟨k, h1⟩
  · rw [h1] at ha
    have : (2147483647#32 : BitVec 32).toInt = 2147483647 := by decide
    omega
  · rw [h1, hw] at ha ⊢
    by_cases hk : f k = f (amin f)
    · rw [if_pos hk] at ha ⊢
      rw [toInt_small (by omega)] at ha
      rw [eq_amin f k hk.le (Fin.le_def.2 (by omega))]
    · rw [if_neg hk] at ha
      have : (1024#32 : BitVec 32).toInt = 1024 := by decide
      omega
end Ker

end Cert.Proof

end
-- ==== Proof.KerBlock.lean ====
/- What one grid point of the kernel computes from its four input blocks, read at an index over the ideal floats: the block's
   distances, the index picked for each token, the encodings, the quantized vectors, and the two running sums. -/
module

public import proofs.«01_k».proof.Proof.KerOuts
public import proofs.«01_k».proof.Proof.Least
public import Idealize.ShloMosaic.Lib.IdealHost
public import Idealize.ShloMosaic.Lib.MatmulPlain
public import Idealize.ShloMosaic.Lib.ValueIdxRank1

@[expose] public section

set_option maxRecDepth 16384

noncomputable section

namespace Cert.Proof.Ker

open Cert.KernelIdeal Cert.KernelIdeal.Gen Idealize.ShloMosaic Idealize.ShloMosaic.ValueIdx

/-- A sum over a reshaped array is the sum over the array. -/
theorem sum_cast {s t : Shape} (x : s.Idx → EReal) (h : s.ShapeCasts t) :
    ∑ j : t.Idx, shapeCast t x h j = ∑ i : s.Idx, x i :=
  Equiv.sum_comp (Shape.reshapeEquiv h) x

/-- A product into the zero accumulator is the sum of the products: rows by columns. -/
theorem mm_rows {M K N : ℕ} {φ₁ φ₂ : FTy} (l : FVec Ideal ⟨2, ![M, K]⟩ φ₁) (r : FVec Ideal ⟨2, ![K, N]⟩ φ₂) (i : Fin M) (j : Fin N) :
    (FloatOps.matmul (DotDims.plain M K N) none l r (constant ⟨2, ![M, N]⟩ .f32 0x00000000#32) (ix2 i j) : EReal)
      = ∑ k : Fin K, (l (ix2 i k) * r (ix2 k j) : EReal) := by
  rw [Ideal.matmul_plain_apply]
  show Ideal.ofBits .f32 0x00000000#32 + _ = _
  rw [Ideal.ofBits_zero_f32, zero_add]

/-- A product into the zero accumulator is the sum of the products: rows by rows. -/
theorem mm_trans {M K N : ℕ} {φ₁ φ₂ : FTy} (l : FVec Ideal ⟨2, ![M, K]⟩ φ₁) (r : FVec Ideal ⟨2, ![N, K]⟩ φ₂) (i : Fin M) (j : Fin N) :
    (FloatOps.matmul (DotDims.transposedRhs M K N) none l r (constant ⟨2, ![M, N]⟩ .f32 0x00000000#32) (ix2 i j) : EReal)
      = ∑ k : Fin K, (l (ix2 i k) * r (ix2 j k) : EReal) := by
  rw [Ideal.matmul_transposedRhs_apply]
  show Ideal.ofBits .f32 0x00000000#32 + _ = _
  rw [Ideal.ofBits_zero_f32, zero_add]

/-- A row of ones times a matrix is the matrix's column sums. -/
theorem mm_ones {K N : ℕ} {φ₂ : FTy} (r : FVec Ideal ⟨2, ![K, N]⟩ φ₂) (j : Fin N) :
    (FloatOps.matmul (DotDims.plain 1 K N) none (broadcast ⟨2, ![1, K]⟩ (Scalar.ofBits (F := Ideal) .bf16 0x3F80#16)) r
      (constant ⟨2, ![1, N]⟩ .f32 0x00000000#32) (ix2 0 j) : EReal) = ∑ p : Fin K, (r (ix2 p j) : EReal) := by
  rw [mm_rows]
  refine Finset.sum_congr rfl fun p _ => ?_
  show Ideal.ofBits .bf16 0x3F80#16 * _ = _
  rw [Ideal.ofBits_one_bf16, one_mul]

/-- The sums of the columns of a matrix. -/
theorem column_sum {M N : ℕ} (w : FVec Ideal ⟨2, ![M, N]⟩ .f32) (h : Shape.Reduces ⟨2, ![M, N]⟩ [0] ⟨1, ![N]⟩)
    (hφ : FKind.Formats .f32) (hacc : 0x00000000#32 = FKind.add.neutral .f32 hφ) (e : Fin N) :
    (multiReduction (F := Ideal) .add [0] ⟨1, ![N]⟩ w 0x00000000#32 h hφ hacc (ix1 e) : EReal) = ∑ p : Fin M, (w (ix2 p e) : EReal) :=
  (Ideal.multiReduction_add_single w _ h hφ hacc (ix1 e)).trans (Finset.sum_congr rfl fun p _ => congrArg w
    (funext fun b => Fin.ext (by match b with | ⟨0, _⟩ => rfl | ⟨1, _⟩ => rfl)))

/-- The sum of all entries of a row, as the kernel takes it. -/
theorem row_total {N : ℕ} (w : FVec Ideal ⟨2, ![1, N]⟩ .f32) (hc : Shape.ShapeCasts ⟨2, ![1, N]⟩ ⟨3, ![1, 1, N]⟩)
    (h : Shape.Reduces ⟨3, ![1, 1, N]⟩ [1, 2] ⟨1, ![1]⟩) (hφ : FKind.Formats .f32)
    (hacc : 0x00000000#32 = FKind.add.neutral .f32 hφ) (j : Shape.Idx ⟨1, ![1]⟩) :
    (multiReduction (F := Ideal) .add [1, 2] ⟨1, ![1]⟩ (shapeCast ⟨3, ![1, 1, N]⟩ w hc) 0x00000000#32 h hφ hacc j : EReal)
      = ∑ e : Fin N, (w (ix2 0 e) : EReal) :=
  (Ideal.multiReduction_add_total (shapeCast ⟨3, ![1, 1, N]⟩ w hc) _ h (fun b => by fin_cases b; rfl) hφ hacc j).trans
    ((sum_cast w hc).trans ((sum_idx2 _).trans (Fin.sum_univ_one _)))

/-! ## The index picked from a block of distances -/

/-- The first least place of each row, as the kernel finds it: the least column whose entry is the row's minimum. -/
def pick (d : FVec Ideal S2048x1024 .f32) : IVec S2048x1 32 :=
  shapeCast S2048x1 (multiReductionI .minsi [1] S2048
    (select (cmpf .oeq d (broadcastTo S2048x1024 (shapeCast S2048x1
        (multiReduction .minimumf [1] S2048 d 0x7F800000#32 reduces_S2048x1024_S2048 (.inl rfl) rfl) shapeCasts_S2048_S2048x1)
      broadcasts_S2048x1_S2048x1024)) (iota .tc S2048x1024 32 [1] iota_S2048x1024_d1_w32) (broadcast S2048x1024 1024#32))
    2147483647#32 reduces_S2048x1024_S2048 rfl) shapeCasts_S2048_S2048x1

/-- A column of one entry for each row, reshaped from a vector. -/
theorem column_apply {α : Type} (v : S2048.Idx → α) (p : Fin 2048) :
    shapeCast S2048x1 v shapeCasts_S2048_S2048x1 (ix2 p 0) = v (ix1 p) :=
  shapeCast_apply v shapeCasts_S2048_S2048x1 (ix2 p 0) (ix1 p) (by
    rewrite [Shape.rowMajor_val_one, Shape.rowMajor_val_two]; show p.val = p.val * 1 + 0; omega)

/-- A column broadcast along the rows. -/
theorem along_apply {α : Type} (v : S2048x1.Idx → α) (p : Fin 2048) (k : Fin 1024) :
    broadcastTo S2048x1024 v broadcasts_S2048x1_S2048x1024 (ix2 p k) = v (ix2 p 0) :=
  broadcastTo_apply v _ (ix2 p k) (ix2 p 0) (fun a => match a with
    | ⟨0, _⟩ => by show p.val = if (2048 : Nat) = 1 then 0 else p.val; rw [if_neg (by decide)]
    | ⟨1, _⟩ => rfl)

/-- The column number as a word. -/
theorem iota_at (p : Fin 2048) (k : Fin 1024) :
    iota .tc S2048x1024 32 [1] iota_S2048x1024_d1_w32 (ix2 p k) = BitVec.ofNat 32 k.val := by
  show BitVec.ofNat 32 (0 * 1024 + k.val) = _
  rw [Nat.zero_mul, Nat.zero_add]

/-- The picked index is where the row first takes its least value. -/
theorem pick_apply (d : FVec Ideal S2048x1024 .f32) (p : Fin 2048) :
    pick d (ix2 p 0) = BitVec.ofNat 32 (amin fun k => d (ix2 p k)).val := by
  unfold pick
  rw [column_apply]
  refine minsi_row (fun k => d (ix2 p k)) _ _ rfl p fun k => ?_
  rw [select_apply, cmpf_apply, along_apply, column_apply, iota_at, broadcast_apply]
  refine (congrArg (fun v => Scalar.select (FloatOps.cmpf .oeq (d (ix2 p k)) v) (BitVec.ofNat 32 k.val) 1024#32)
    (minf_row d _ _ _ p)).trans ?_
  beta_reduce
  rw [Ideal.cmpf_def]
  by_cases h : d (ix2 p k) = d (ix2 p (amin fun k => d (ix2 p k)))
  · rw [if_pos h, h]
    simp [Ideal.cmp, Scalar.select]
  · rw [if_neg h]
    simp [Ideal.cmp, Scalar.select, h]

section Block
variable (x0 : Vec Ideal S2048x256 .f32) (x1 : Vec Ideal S1x1x2048 .f32) (x2 : Vec Ideal S1024x256 .bf16)
  (x3 : Vec Ideal S1x1024 .f32)

/-- The block's distances. -/
def distB : FVec Ideal S2048x1024 .f32 :=
  subf
    (addf
      (broadcastTo S2048x1024 (transpose S2048x1 [1, 0] (shapeCast S1x2048 x1 shapeCasts_S1x1x2048_S1x2048)
        transposes_S1x2048_p1_0_S2048x1) broadcasts_S2048x1_S2048x1024)
      (broadcastTo S2048x1024 (shapeCast S1x1024 x3 shapeCasts_S1x1024_S1x1024) broadcasts_S1x1024_S2048x1024))
    (mulf (broadcast S2048x1024 (Scalar.ofBits .f32 0x40000000#32))
      (matmul dot_S2048x256_S1024x256_S2048x1024_1_1_0_0_n_n none (truncf .bf16 (k0_pay9 x0) bitsLt_bf16_f32) (k0_pay10 x2)
        (constant S2048x1024 .f32 0x00000000#32)))

/-- The picked indices are picked from the block's distances. -/
theorem pay13_eq : k0_pay13 x0 x2 x1 x3 = pick (distB x0 x1 x2 x3) := rfl

/-- The block's tokens are loaded as they are. -/
theorem pay9_eq : k0_pay9 x0 = x0 := shapeCast_self _ _

/-- The codebook is loaded as it is. -/
theorem pay10_eq : k0_pay10 x2 = x2 := shapeCast_self _ _

/-- A distance of the block: the two squared norms less twice the inner product. -/
theorem distB_apply (p : Fin 2048) (k : Fin 1024) : distB x0 x1 x2 x3 (ix2 p k)
    = ((x1 (ix3 0 0 p) + x3 (ix2 0 k)) - Ideal.ofBits .f32 0x40000000#32 * ∑ e : Fin 256, (x0 (ix2 p e) * x2 (ix2 k e) : EReal) : EReal) := by
  unfold distB
  rw [pay9_eq, pay10_eq, shapeCast_self]
  have h1 : transpose S2048x1 [1, 0] (shapeCast S1x2048 x1 shapeCasts_S1x1x2048_S1x2048) transposes_S1x2048_p1_0_S2048x1 (ix2 p 0)
      = x1 (ix3 0 0 p) :=
    (transpose_apply [1, 0] _ _ (ix2 p 0) (ix2 0 p) (fun b => match b with
      | ⟨0, _⟩ => rfl
      | ⟨1, _⟩ => rfl)).trans
    (shapeCast_apply x1 shapeCasts_S1x1x2048_S1x2048 (ix2 0 p) (ix3 0 0 p) (by
      rewrite [Shape.rowMajor_val_three, Shape.rowMajor_val_two]; show (0 * 1 + 0) * 2048 + p.val = 0 * 2048 + p.val; omega))
  have h2 : broadcastTo S2048x1024 x3 broadcasts_S1x1024_S2048x1024 (ix2 p k) = x3 (ix2 0 k) :=
    broadcastTo_apply x3 _ (ix2 p k) (ix2 0 k) (fun a => match a with
      | ⟨0, _⟩ => rfl
      | ⟨1, _⟩ => by show k.val = if (1024 : Nat) = 1 then 0 else k.val; rw [if_neg (by decide)])
  have h3 : matmul (F := Ideal) (φ₂ := .bf16) dot_S2048x256_S1024x256_S2048x1024_1_1_0_0_n_n none
      (truncf .bf16 x0 bitsLt_bf16_f32) x2 (constant S2048x1024 .f32 0x00000000#32) (ix2 p k) = ∑ e : Fin 256, (x0 (ix2 p e) * x2 (ix2 k e) : EReal) :=
    mm_trans (φ₂ := .bf16) (truncf (F := Ideal) .bf16 x0 bitsLt_bf16_f32) x2 p k
  rw [subf_apply, addf_apply, mulf_apply, along_apply, h1, h2, h3]
  rfl

variable (a : Fin 2048 → Fin 1024) (ha : ∀ p, k0_pay13 x0 x2 x1 x3 (ix2 p 0) = BitVec.ofNat 32 (a p).val)
include ha

/-- The encodings: a one at each token's picked index, zeros elsewhere. -/
theorem encB_apply (p : Fin 2048) (k : Fin 1024) : encB x0 x1 x2 x3 (ix2 p k) = (if k = a p then 1 else 0 : EReal) := by
  unfold encB k0_pay1 k0_pay15 k0_pay16
  show Scalar.select (IntOp.cmpi .eq (broadcastTo S2048x1024 (k0_pay13 x0 x2 x1 x3) broadcasts_S2048x1_S2048x1024 (ix2 p k))
    (iota .tc S2048x1024 32 [1] iota_S2048x1024_d1_w32 (ix2 p k))) (Ideal.ofBits .f32 0x3F800000#32)
    (Ideal.ofBits .f32 0x00000000#32) = _
  rw [along_apply, ha, iota_at, Ideal.ofBits_one_f32, Ideal.ofBits_zero_f32]
  have he : BitVec.ofNat 32 (a p).val = BitVec.ofNat 32 k.val ↔ k = a p := by
    constructor
    · intro h
      have := congrArg BitVec.toNat h
      rw [BitVec.toNat_ofNat, BitVec.toNat_ofNat, Nat.mod_eq_of_lt (by omega), Nat.mod_eq_of_lt (by omega)] at this
      exact Fin.ext this.symm
    · rintro rfl; rfl
  by_cases h : k = a p
  · rw [if_pos h, he.2 h]
    simp [IntOp.cmpi, Scalar.select]
  · rw [if_neg h]
    have hn : ¬BitVec.ofNat 32 (a p).val = BitVec.ofNat 32 k.val := fun q => h (he.1 q)
    have hb : (BitVec.ofNat 32 (a p).val == BitVec.ofNat 32 k.val) = false := beq_eq_false_iff_ne.2 hn
    simp only [IntOp.cmpi, Scalar.select, hb]
    rfl

/-- The indices, laid out as a row. -/
theorem idxB_apply (p : Fin 2048) : idxB x0 x1 x2 x3 (ix3 0 0 p) = BitVec.ofNat 32 (a p).val := by
  unfold idxB k0_pay14
  exact (shapeCast_apply _ shapeCasts_S1x2048_S1x1x2048 (ix3 0 0 p) (ix2 0 p) (by
      rewrite [Shape.rowMajor_val_three, Shape.rowMajor_val_two]; show 0 * 2048 + p.val = (0 * 1 + 0) * 2048 + p.val; omega)).trans
    ((transpose_apply [1, 0] _ _ (ix2 0 p) (ix2 p 0) (fun b => match b with
      | ⟨0, _⟩ => rfl
      | ⟨1, _⟩ => rfl)).trans (ha p))

omit ha

/-- The block's quantized vectors less its tokens. -/
def diffB : FVec Ideal S2048x256 .f32 := k0_pay3 (k0_pay9 x0) (k0_pay10 x2) (k0_pay15 x0 x2 x1 x3) zero k0_pay16

/-- The quantized vectors less the tokens, from any choice of ones: the product's entry less the token's. -/
theorem pay3_apply (u : FVec Ideal S2048x256 .f32) (w : FVec Ideal S1024x256 .bf16) (b : IVec S2048x1024 1) (z : Ideal .f32)
    (o : FVec Ideal S2048x1024 .f32) (p : Fin 2048) (e : Fin 256) : k0_pay3 u w b z o (ix2 p e)
      = ((∑ k : Fin 1024, (k0_pay1 b z o (ix2 p k) * w (ix2 k e) : EReal)) - u (ix2 p e) : EReal) := by
  unfold k0_pay3
  rw [subf_apply]
  have h := mm_rows (k0_pay2 b z o) w p e
  exact congrArg (fun x : EReal => (x - u (ix2 p e) : EReal)) h

/-- A difference: the encodings' row against the codebook's column, less the token's entry. -/
theorem diffB_apply (p : Fin 2048) (e : Fin 256) : diffB x0 x1 x2 x3 (ix2 p e)
    = ((∑ k : Fin 1024, (encB x0 x1 x2 x3 (ix2 p k) * x2 (ix2 k e) : EReal)) - x0 (ix2 p e) : EReal) := by
  unfold diffB encB
  rw [pay3_apply, pay9_eq, pay10_eq]

/-- The quantized vectors: the tokens plus the difference. -/
theorem zqB_apply (p : Fin 2048) (e : Fin 256) :
    zqB x0 x1 x2 x3 (ix2 p e) = (x0 (ix2 p e) + diffB x0 x1 x2 x3 (ix2 p e) : EReal) := by
  unfold zqB k0_pay4
  rw [addf_apply]
  exact congrArg (fun v : FVec Ideal S2048x256 .f32 => (v (ix2 p e) + diffB x0 x1 x2 x3 (ix2 p e) : EReal)) (pay9_eq x0)

/-- The counts, from any choice of ones: they grow by the column sums. -/
theorem pay5_apply (b : IVec S2048x1024 1) (z : Ideal .f32) (o : FVec Ideal S2048x1024 .f32) (s : Vec Ideal S1x1024 .f32)
    (k : Fin 1024) : k0_pay5 b z o s (ix2 0 k) = (s (ix2 0 k) + ∑ p : Fin 2048, (k0_pay1 b z o (ix2 p k) : EReal) : EReal) := by
  unfold k0_pay5
  rw [shapeCast_self, addf_apply]
  have h := mm_ones (k0_pay2 b z o) k
  exact congrArg (fun x : EReal => (s (ix2 0 k) + x : EReal)) h

/-- The counts grow by the encodings' column sums. -/
theorem cntB_apply (s : Vec Ideal S1x1024 .f32) (k : Fin 1024) :
    cntB x0 x1 x2 x3 s (ix2 0 k) = (s (ix2 0 k) + ∑ p : Fin 2048, (encB x0 x1 x2 x3 (ix2 p k) : EReal) : EReal) :=
  pay5_apply _ _ _ s k

/-- A row of sums grows by the column sums of a block. -/
theorem grow (d : FVec Ideal S2048x256 .f32) (s : Vec Ideal S1x256 .f32) (e : Fin 256) :
    shapeCast S1x256 (addf s (shapeCast S1x256 (multiReduction (F := Ideal) .add [0] S256 (mulf d d) 0x00000000#32
      reduces_S2048x256_S256 (.inl rfl) rfl) shapeCasts_S256_S1x256)) shapeCasts_S1x256_S1x256 (ix2 0 e)
      = (s (ix2 0 e) + ∑ p : Fin 2048, (d (ix2 p e) * d (ix2 p e) : EReal) : EReal) := by
  rw [shapeCast_self, addf_apply]
  have h1 : shapeCast S1x256 (multiReduction (F := Ideal) .add [0] S256 (mulf d d) 0x00000000#32
      reduces_S2048x256_S256 (.inl rfl) rfl) shapeCasts_S256_S1x256 (ix2 0 e) = _ :=
    shapeCast_apply _ shapeCasts_S256_S1x256 (ix2 0 e) (ix1 e) (by
      rewrite [Shape.rowMajor_val_one, Shape.rowMajor_val_two]; show e.val = 0 * 256 + e.val; omega)
  have h2 := column_sum (mulf d d) reduces_S2048x256_S256 (.inl rfl) rfl e
  exact congrArg (fun x : EReal => (s (ix2 0 e) + x : EReal)) (h1.trans h2)

/-- The squared-difference sums, as one growth. -/
theorem sqB_eq (s : Vec Ideal S1x256 .f32) : sqB x0 x1 x2 x3 s = shapeCast S1x256 (addf s (shapeCast S1x256
    (multiReduction (F := Ideal) .add [0] S256 (mulf (diffB x0 x1 x2 x3) (diffB x0 x1 x2 x3)) 0x00000000#32
      reduces_S2048x256_S256 (.inl rfl) rfl) shapeCasts_S256_S1x256)) shapeCasts_S1x256_S1x256 := rfl

/-- The squared-difference sums grow by the block's column sums. -/
theorem sqB_apply (s : Vec Ideal S1x256 .f32) (e : Fin 256) : sqB x0 x1 x2 x3 s (ix2 0 e)
    = (s (ix2 0 e) + ∑ p : Fin 2048, (diffB x0 x1 x2 x3 (ix2 p e) * diffB x0 x1 x2 x3 (ix2 p e) : EReal) : EReal) :=
  (congrFun (sqB_eq x0 x1 x2 x3 s) (ix2 0 e)).trans (grow (diffB x0 x1 x2 x3) s e)
end Block

/-! ## The last step -/

/-- The counts start at zero. -/
theorem pay11_apply (k : Fin 1024) : (k0_pay11 (F := Ideal) (ix2 0 k) : EReal) = 0 := by
  unfold k0_pay11
  rw [shapeCast_self]
  exact Ideal.ofBits_zero_f32

/-- The squared-difference sums start at zero. -/
theorem pay12_apply (e : Fin 256) : (k0_pay12 (F := Ideal) (ix2 0 e) : EReal) = 0 := by
  unfold k0_pay12
  rw [shapeCast_self]
  exact Ideal.ofBits_zero_f32

/-- The loss from the squared-difference sums. -/
theorem pay7_apply (v : Vec Ideal S1x256 .f32) (j : S1x1.Idx) (M : EReal)
    (hM : M = Ideal.div (∑ e : Fin 256, (v (ix2 0 e) : EReal)) (Ideal.ofBits .f32 0x4A800000#32)) :
    k0_pay7 v j = (M + Ideal.ofBits .f32 0x3E800000#32 * M : EReal) := by
  have hs : multiReduction (F := Ideal) .add [1, 2] S1 (shapeCast S1x1x256 v shapeCasts_S1x256_S1x1x256) 0x00000000#32
      reduces_S1x1x256_S1 (.inl rfl) rfl (ix1 0) = ∑ e : Fin 256, (v (ix2 0 e) : EReal) :=
    row_total v shapeCasts_S1x256_S1x1x256 reduces_S1x1x256_S1 (.inl rfl) rfl (ix1 0)
  have hx : extractAt ![0, 0, 0] (shapeCast S1x1x1 (multiReduction (F := Ideal) .add [1, 2] S1
      (shapeCast S1x1x256 v shapeCasts_S1x256_S1x1x256) 0x00000000#32 reduces_S1x1x256_S1 (.inl rfl) rfl) shapeCasts_S1_S1x1x1)
      inpos_S1x1x1_p0_0_0 = ∑ e : Fin 256, (v (ix2 0 e) : EReal) :=
    (shapeCast_apply _ shapeCasts_S1_S1x1x1 _ (ix1 0) rfl).trans hs
  unfold k0_pay7
  rw [hM]
  rw [hx]
  rfl

/-- The perplexity from the counts. -/
theorem pay8_apply (v : Vec Ideal S1x1024 .f32) (j : S1x1.Idx) (f : Fin 1024 → EReal)
    (hf : ∀ k, f k = (v (ix2 0 k) * Ideal.ofBits .f32 0x38800000#32 : EReal)) :
    k0_pay8 v j = Ideal.exp (-∑ k : Fin 1024, f k * Ideal.log (f k + Ideal.ofBits .f32 0x2EDBE6FF#32)) := by
  generalize hw : mulf (F := Ideal) (mulf v (broadcast S1x1024 (Scalar.ofBits .f32 0x38800000#32)))
    (log (addf (mulf v (broadcast S1x1024 (Scalar.ofBits .f32 0x38800000#32))) (broadcast S1x1024 (Scalar.ofBits .f32 0x2EDBE6FF#32)))) = w
  have hwk : ∀ k, (w (ix2 0 k) : EReal) = f k * Ideal.log (f k + Ideal.ofBits .f32 0x2EDBE6FF#32) := fun k => by
    rw [hf, ← hw]; rfl
  have hs : multiReduction (F := Ideal) .add [1, 2] S1 (shapeCast S1x1x1024 w shapeCasts_S1x1024_S1x1x1024) 0x00000000#32
      reduces_S1x1x1024_S1 (.inl rfl) rfl (ix1 0) = ∑ k : Fin 1024, f k * Ideal.log (f k + Ideal.ofBits .f32 0x2EDBE6FF#32) :=
    (row_total w shapeCasts_S1x1024_S1x1x1024 reduces_S1x1x1024_S1 (.inl rfl) rfl (ix1 0)).trans
      (Finset.sum_congr rfl fun k _ => hwk k)
  have hx : extractAt ![0, 0, 0] (shapeCast S1x1x1 (multiReduction (F := Ideal) .add [1, 2] S1
      (shapeCast S1x1x1024 w shapeCasts_S1x1024_S1x1x1024) 0x00000000#32 reduces_S1x1x1024_S1 (.inl rfl) rfl) shapeCasts_S1_S1x1x1)
      inpos_S1x1x1_p0_0_0 = ∑ k : Fin 1024, f k * Ideal.log (f k + Ideal.ofBits .f32 0x2EDBE6FF#32) :=
    (shapeCast_apply _ shapeCasts_S1_S1x1x1 _ (ix1 0) rfl).trans hs
  unfold k0_pay8
  dsimp only
  rw [hw, hx, broadcast_apply]
  show Ideal.exp (Ideal.ofBits .f32 0x00000000#32 - _) = _
  rw [Ideal.ofBits_zero_f32, zero_sub]

end Cert.Proof.Ker

end
-- ==== Proof.RefValue.lean ====
/- What the reference's functions hold at an index, over the ideal floats: the distances as sums, the indices as first least
   places, the encodings as ones at those places, and the quantized vectors, the loss and the perplexity as sums. -/
module

public import proofs.«01_k».proof.Proof.RefRun
public import proofs.«01_k».proof.Proof.Least
public import Idealize.ShloMosaic.Lib.IdealHost
public import Idealize.ShloMosaic.Lib.MatmulPlain
public import Idealize.ShloMosaic.Lib.StackMember
public import Idealize.ShloMosaic.Lib.Routing.OpsSet
public import Idealize.ShloMosaic.Lib.ValueIdxRank1

@[expose] public section

set_option maxRecDepth 16384

noncomputable section

namespace Cert.Proof.Ref

open Cert.ReferenceIdeal Cert.ReferenceIdeal.Gen Idealize.ShloMosaic Idealize.ShloMosaic.ValueIdx

/-- A buffer's contents at a shape and an element type, over the ideal floats. -/
local notation "Vec[" s ", " e "]" => (BufTy.Contents (Elt Ideal) ⟨s, e⟩)

/-- A scalar constant. -/
theorem const_scalar (b : BitVec 32) (i : S_.Idx) : constant (F := Ideal) S_ .f32 b i = Ideal.ofBits .f32 b := rfl

/-- The zero scalar. -/
theorem zero_scalar (i : S_.Idx) : (constant (F := Ideal) S_ .f32 0x00000000#32 i : EReal) = 0 :=
  (const_scalar _ i).trans Ideal.ofBits_zero_f32

/-! ## The distances -/

/-- The squared norm of a token vector is the sum of its squared entries. -/
theorem normZ_apply (x0 : Vec[S16x256x32x32, .f32]) (n : Fin 16384) :
    normZ x0 (ix1 n) = ∑ e : Fin 256, (flat x0 (ix2 n e) * flat x0 (ix2 n e) : EReal) := by
  unfold normZ
  generalize flat x0 = y
  rw [hostReduceAdd_apply, Ideal.hostReduceAdd_single reducesTo_S16384x256_S16384_d1 (by decide)]
  rw [zero_scalar, zero_add]
  refine Finset.sum_congr rfl fun k _ => ?_
  exact congrArg (fun i => (y i * y i : EReal)) (funext fun a => Fin.ext (by match a with | ⟨0, _⟩ => rfl | ⟨1, _⟩ => rfl))

/-- The squared norm of a codebook row is the sum of its squared entries. -/
theorem normW_apply (x1 : Vec[S1024x256, .f32]) (k : Fin 1024) :
    normW x1 (ix1 k) = ∑ e : Fin 256, (x1 (ix2 k e) * x1 (ix2 k e) : EReal) := by
  unfold normW
  rw [hostReduceAdd_apply, Ideal.hostReduceAdd_single reducesTo_S1024x256_S1024_d1 (by decide)]
  rw [zero_scalar, zero_add]
  refine Finset.sum_congr rfl fun e _ => ?_
  exact congrArg (fun i => (x1 i * x1 i : EReal)) (funext fun a => Fin.ext (by match a with | ⟨0, _⟩ => rfl | ⟨1, _⟩ => rfl))

/-- An inner product is the sum of the products. -/
theorem inner_apply (x0 : Vec[S16x256x32x32, .f32]) (x1 : Vec[S1024x256, .f32]) (n : Fin 16384) (k : Fin 1024) :
    inner x0 x1 (ix2 n k) = ∑ e : Fin 256, (flat x0 (ix2 n e) * x1 (ix2 k e) : EReal) := by
  unfold inner
  generalize flat x0 = y
  refine (StackMember.dotGeneral_plain_apply none y (transpose S256x1024 [1, 0] x1 transposes_S1024x256_S256x1024_1_0) n k).trans
    (Finset.sum_congr rfl fun e _ => congrArg (y (ix2 n e) * · : EReal → EReal) ?_)
  exact transpose_apply [1, 0] x1 transposes_S1024x256_S256x1024_1_0 (ix2 e k) (ix2 k e) (fun b => match b with
    | ⟨0, _⟩ => rfl
    | ⟨1, _⟩ => rfl)

/-- A distance: the two squared norms less twice the inner product. -/
theorem dist_apply (x0 : Vec[S16x256x32x32, .f32]) (x1 : Vec[S1024x256, .f32]) (n : Fin 16384) (k : Fin 1024) :
    dist x0 x1 (ix2 n k) = ((normZ x0 (ix1 n) + normW x1 (ix1 k)) - Ideal.ofBits .f32 0x40000000#32 * inner x0 x1 (ix2 n k) : EReal) := by
  unfold dist
  generalize normZ x0 = a
  generalize normW x1 = b
  generalize inner x0 x1 = c
  have h1 : broadcastInDim S16384x1024 ![0, 1] bcast_S16384x1_S16384x1024_0_1
      (broadcastInDim S16384x1 ![0] bcast_S16384_S16384x1_0 a) (ix2 n k) = a (ix1 n) :=
    (broadcastInDim_apply _ _ _ (ix2 n k) (ix2 n 0) (fun q => match q with
      | ⟨0, _⟩ => by show n.val = if (16384 : Nat) = 1 then 0 else n.val; rw [if_neg (by decide)]
      | ⟨1, _⟩ => rfl)).trans
    (broadcastInDim_apply _ _ _ (ix2 n 0) (ix1 n) (fun q => match q with
      | ⟨0, _⟩ => by show n.val = if (16384 : Nat) = 1 then 0 else n.val; rw [if_neg (by decide)]))
  have h2 : broadcastInDim S16384x1024 ![0, 1] bcast_S1x1024_S16384x1024_0_1
      (broadcastInDim S1x1024 ![1] bcast_S1024_S1x1024_1 b) (ix2 n k) = b (ix1 k) :=
    (broadcastInDim_apply _ _ _ (ix2 n k) (ix2 0 k) (fun q => match q with
      | ⟨0, _⟩ => rfl
      | ⟨1, _⟩ => by show k.val = if (1024 : Nat) = 1 then 0 else k.val; rw [if_neg (by decide)])).trans
    (broadcastInDim_apply _ _ _ (ix2 0 k) (ix1 k) (fun q => match q with
      | ⟨0, _⟩ => by show k.val = if (1024 : Nat) = 1 then 0 else k.val; rw [if_neg (by decide)]))
  rw [subf_apply, addf_apply, mulf_apply, h1, h2, broadcastInDim_scalar_apply]
  rfl

/-! ## The indices and the encodings -/

/-- The codebook row a token is sent to: where its distances first take their least value. -/
def near (x0 : Vec[S16x256x32x32, .f32]) (x1 : Vec[S1024x256, .f32]) (n : Fin 16384) : Fin 1024 :=
  amin fun k => (dist x0 x1 (ix2 n k) : EReal)

/-- The reference's index vector, as the fold's second component. -/
theorem argm_eq (d : Vec[S16384x1024, .f32]) : argm d = fun j => (Host.argReduce (F := Ideal) (φ := .f32) reducer_argmin_f32_i32 d
    (iotaInDim S16384x1024 32 1) (constant S_ .f32 0x7F800000#32) (constantI S_ 32 0#32) reducesTo_S16384x1024_S16384_d1 h_S_ j).2 := rfl

/-- It holds where each row first takes its least value. -/
theorem argm_apply (d : Vec[S16384x1024, .f32]) (n : Fin 16384) :
    argm d (ix1 n) = BitVec.ofNat 32 (amin fun k => (d (ix2 n k) : EReal)).val :=
  (congrFun (argm_eq d) (ix1 n)).trans (argReduce_least d reducesTo_S16384x1024_S16384_d1 h_S_ n)

/-- The index of a token is that row's. -/
theorem idxOf_apply (x0 : Vec[S16x256x32x32, .f32]) (x1 : Vec[S1024x256, .f32]) (n : Fin 16384) :
    idxOf x0 x1 (ix1 n) = BitVec.ofNat 32 (near x0 x1 n).val := by
  unfold idxOf near
  exact argm_apply _ n

/-- Wrapping leaves a small index as it is. -/
theorem wrap_small (c : BitVec 32) (v : Vec[S16384, .i32]) (n : Fin 16384) (k : ℕ) (hk : k < 2 ^ 31)
    (hv : v (ix1 n) = BitVec.ofNat 32 k) : wrap (F := Ideal) c v (ix1 n) = BitVec.ofNat 32 k := by
  show Scalar.select (IntOp.cmpi .slt (v (ix1 n)) 0#32) _ (v (ix1 n)) = _
  rw [hv]
  refine Routing.wrap_of_lt _ _ ?_
  rw [BitVec.toNat_ofNat, Nat.mod_eq_of_lt (by omega)]
  exact hk

/-- The places: token `n`'s pair is `n` and its index. -/
theorem places_apply (v : Vec[S16384, .i32]) (a : Fin 16384 → Fin 1024) (hv : ∀ n, v (ix1 n) = BitVec.ofNat 32 (a n).val)
    (n : Fin 16384) : places (F := Ideal) v (ix2 n 0) = BitVec.ofNat 32 n.val
      ∧ places (F := Ideal) v (ix2 n 1) = BitVec.ofNat 32 (a n).val := by
  have hb : ∀ w : Vec[S16384, .i32], broadcastInDim S16384x1 ![0] bcast_S16384_S16384x1_0 w (ix2 n 0) = w (ix1 n) := fun w =>
    broadcastInDim_apply _ _ _ (ix2 n 0) (ix1 n) (fun q => match q with
      | ⟨0, _⟩ => by show n.val = if (16384 : Nat) = 1 then 0 else n.val; rw [if_neg (by decide)])
  have hn : wrap (F := Ideal) 16384#32 (iotaInDim S16384 32 0) (ix1 n) = BitVec.ofNat 32 n.val :=
    wrap_small _ _ n n.val (by omega) rfl
  have ha : wrap (F := Ideal) 1024#32 v (ix1 n) = BitVec.ofNat 32 (a n).val := wrap_small _ _ n _ (by omega) (hv n)
  unfold places
  generalize wrap (F := Ideal) 16384#32 (iotaInDim S16384 32 0) = w0 at hn ⊢
  generalize wrap (F := Ideal) 1024#32 v = w1 at ha ⊢
  constructor
  · refine (concatenate_pair_apply_left (t := S16384x2) (s₁ := S16384x1) (s₂ := S16384x1) 1 _ _ _ (ix2 n 0) rfl (ix2 n 0) fun b => ?_).trans ((hb w0).trans hn)
    match b with
    | ⟨0, _⟩ => rfl
    | ⟨1, _⟩ => rfl
  · refine (concatenate_pair_apply_right (t := S16384x2) (s₁ := S16384x1) (s₂ := S16384x1) 1 _ _ _ (ix2 n 1) rfl rfl (ix2 n 0) (fun b hb => ?_) rfl).trans ((hb w1).trans ha)
    match b with
    | ⟨0, _⟩ => rfl
    | ⟨1, _⟩ => exact absurd rfl hb

/-- An update's start on an axis is the word of its pair for that axis, read signed. -/
theorem start_pair (idx : IVec S16384x2 32) (n : Fin 16384) (q : Fin 2) :
    scatter_S16384x1024_S16384x2_S16384_n_01_01_1.start (ix1 n) idx q = (idx (ix2 n q)).toInt := by
  have hm : q ∈ scatter_S16384x1024_S16384x2_S16384_n_01_01_1.scatterDimsToOperandDims := by
    fin_cases q <;> simp [scatter_S16384x1024_S16384x2_S16384_n_01_01_1]
  unfold ScatterDims.start
  rw [dif_pos hm]
  refine congrArg (fun i => (idx i).toInt) (funext fun b => Fin.ext ?_)
  match b with
  | ⟨0, _⟩ => rfl
  | ⟨1, _⟩ => fin_cases q <;> rfl

/-- The encodings: a token's row has a one at its index and zeros elsewhere. -/
theorem enc_apply (v : Vec[S16384, .i32]) (a : Fin 16384 → Fin 1024) (hv : ∀ n, v (ix1 n) = BitVec.ofNat 32 (a n).val)
    (n : Fin 16384) (k : Fin 1024) : enc (F := Ideal) v (ix2 n k) = (if k = a n then 1 else 0 : EReal) := by
  have hp := places_apply v a hv
  unfold enc
  generalize places (F := Ideal) v = idx at hp ⊢
  have hwin : ∀ (m : Fin 16384) (q : Fin 2), scatter_S16384x1024_S16384x2_S16384_n_01_01_1.window (ix1 m) q = 0 := fun m q => by
    unfold ScatterDims.window
    rw [dif_neg fun h => (of_decide_eq_true (List.mem_filter.1 h).2) (by
      fin_cases q <;> simp [scatter_S16384x1024_S16384x2_S16384_n_01_01_1])]
  have lands : ∀ j : S16384.Idx, scatter_S16384x1024_S16384x2_S16384_n_01_01_1.resultIdx? j idx = some (ix2 n k)
      ↔ j = ix1 n ∧ k = a n := fun j => by
    obtain ⟨m, rfl⟩ : ∃ m : Fin 16384, j = ix1 m := ⟨j 0, eq_ix1 j⟩
    rw [Routing.resultIdx?_ix2, start_pair, start_pair, hwin, hwin, (hp m).1, (hp m).2, toInt_small (by omega),
      toInt_small (by omega)]
    constructor
    · rintro ⟨h0, h1⟩
      have hmn : m = n := Fin.ext (by omega)
      subst hmn
      exact ⟨rfl, Fin.ext (by omega)⟩
    · rintro ⟨h0, h1⟩
      have hmn : m = n := congrFun h0 0
      subst hmn; subst h1
      constructor <;> simp
  by_cases h : k = a n
  · rw [if_pos h]
    exact Routing.scatter_set_hit _ _ _ _ _ _ (fun j _ => Ideal.ofBits_one_f32) (ix1 n) ((lands _).2 ⟨rfl, h⟩)
  · rw [if_neg h]
    exact (Routing.scatter_set_miss _ _ _ _ _ fun j hj => h ((lands j).1 hj).2).trans Ideal.ofBits_zero_f32

/-- The encodings of the input. -/
theorem encOf_apply (x0 : Vec[S16x256x32x32, .f32]) (x1 : Vec[S1024x256, .f32]) (n : Fin 16384) (k : Fin 1024) :
    encOf x0 x1 (ix2 n k) = (if k = near x0 x1 n then 1 else 0 : EReal) :=
  enc_apply _ _ (idxOf_apply x0 x1) n k

/-! ## The quantized vectors, the loss and the perplexity -/

/-- The quantized vectors as 16384 vectors of 256 channels. -/
def qflat (e : Vec[S16384x1024, .f32]) (x1 : Vec[S1024x256, .f32]) : Vec[S16384x256, .f32] :=
  Host.dotGeneral (F := Ideal) (φ₁ := .f32) (φ₂ := .f32) dot_S16384x1024_S1024x256_S16384x256_1_0_0_1_n_n none e x1

/-- A quantized entry: the encodings' row against the codebook's column. -/
theorem qflat_apply (e : Vec[S16384x1024, .f32]) (x1 : Vec[S1024x256, .f32]) (n : Fin 16384) (j : Fin 256) :
    qflat e x1 (ix2 n j) = ∑ k : Fin 1024, (e (ix2 n k) * x1 (ix2 k j) : EReal) :=
  StackMember.dotGeneral_plain_apply none e x1 n j

/-- The quantized vectors less the input, flat. -/
def diff (x0 : Vec[S16x256x32x32, .f32]) (x1 : Vec[S1024x256, .f32]) : Vec[S16384x256, .f32] :=
  subf (qflat (encOf x0 x1) x1) (flat x0)

/-- A reshape back undoes a reshape. -/
theorem shapeCast_back {α : Type} {s t : Shape} (x : s.Idx → α) (h : s.ShapeCasts t) (h' : t.ShapeCasts s) :
    shapeCast s (shapeCast t x h) h' = x := by
  funext j
  rw [shapeCast_apply _ _ j (Shape.reshapeEquiv h' j) (Shape.rowMajor_reshapeEquiv _ _),
    shapeCast_apply _ _ _ j (Shape.rowMajor_reshapeEquiv _ _).symm]

/-- A sum over a reshaped array is the sum over the array. -/
theorem sum_shapeCast {s t : Shape} (x : s.Idx → EReal) (h : s.ShapeCasts t) :
    ∑ j : t.Idx, shapeCast t x h j = ∑ i : s.Idx, x i :=
  Equiv.sum_comp (Shape.reshapeEquiv h) x

/-- The input with channels last is the flat input reshaped. -/
theorem chan_eq (x0 : Vec[S16x256x32x32, .f32]) : chan x0 = shapeCast _ (flat x0) shapeCasts_S16384x256_S16x32x32x256 :=
  (shapeCast_back (chan x0) shapeCasts_S16x32x32x256_S16384x256 shapeCasts_S16384x256_S16x32x32x256).symm

/-- The difference of two reshaped arrays is the reshaped difference. -/
theorem shapeCast_subf {s t : Shape} (x y : FVec Ideal s .f32) (h : s.ShapeCasts t) :
    subf (shapeCast t x h) (shapeCast t y h) = shapeCast t (subf x y) h := rfl

/-- The sum of two reshaped arrays is the reshaped sum. -/
theorem shapeCast_addf {s t : Shape} (x y : FVec Ideal s .f32) (h : s.ShapeCasts t) :
    addf (shapeCast t x h) (shapeCast t y h) = shapeCast t (addf x y) h := rfl

/-- The product of two reshaped arrays is the reshaped product. -/
theorem shapeCast_mulf {s t : Shape} (x y : FVec Ideal s .f32) (h : s.ShapeCasts t) :
    mulf (shapeCast t x h) (shapeCast t y h) = shapeCast t (mulf x y) h := rfl

/-- The quantized vectors less the input, channels last. -/
theorem diff_eq (x0 : Vec[S16x256x32x32, .f32]) (x1 : Vec[S1024x256, .f32]) : subf (quantOf x0 x1) (chan x0)
    = shapeCast S16x32x32x256 (diff x0 x1) shapeCasts_S16384x256_S16x32x32x256 := by
  rw [chan_eq]
  unfold quantOf quant diff qflat
  exact shapeCast_subf _ _ _

/-- The quantized output: the input plus the difference, reshaped and transposed. -/
theorem outq_eq (x0 : Vec[S16x256x32x32, .f32]) (x1 : Vec[S1024x256, .f32]) : outq (quantOf x0 x1) (chan x0)
    = transpose S16x256x32x32 [0, 3, 1, 2] (shapeCast S16x32x32x256 (addf (flat x0) (diff x0 x1))
        shapeCasts_S16384x256_S16x32x32x256) transposes_S16x32x32x256_S16x256x32x32_0_3_1_2 := by
  unfold outq
  rw [diff_eq, chan_eq, shapeCast_addf]

/-- The mean squared difference. -/
def meansq (x0 : Vec[S16x256x32x32, .f32]) (x1 : Vec[S1024x256, .f32]) : EReal :=
  Ideal.div (∑ n : Fin 16384, ∑ j : Fin 256, (diff x0 x1 (ix2 n j) * diff x0 x1 (ix2 n j) : EReal)) (Ideal.ofBits .f32 0x4A800000#32)

/-- A total of squares, by rows. -/
theorem sum_sq (d : Vec[S16384x256, .f32]) : (∑ i : S16384x256.Idx, mulf (F := Ideal) (φ := .f32) d d i : EReal)
    = ∑ n : Fin 16384, ∑ j : Fin 256, (d (ix2 n j) * d (ix2 n j) : EReal) := sum_idx2 _

/-- The mean squared difference of two arrays whose difference is a reshaped array. -/
theorem mse_of (q z : Vec[S16x32x32x256, .f32]) (d : Vec[S16384x256, .f32])
    (h : subf (F := Ideal) (φ := .f32) q z = shapeCast S16x32x32x256 d shapeCasts_S16384x256_S16x32x32x256) (j : S_.Idx) :
    mse q z j = Ideal.div (∑ n : Fin 16384, ∑ j : Fin 256, (d (ix2 n j) * d (ix2 n j) : EReal)) (Ideal.ofBits .f32 0x4A800000#32) := by
  unfold mse
  rw [h, shapeCast_mulf, hostDivf_apply, hostReduceAdd_apply, Ideal.hostReduceAdd_total _ (fun b => b.elim0), zero_scalar,
    zero_add, sum_shapeCast, sum_sq, const_scalar]

/-- The mean squared difference of the quantized vectors and the input. -/
theorem mse_apply (x0 : Vec[S16x256x32x32, .f32]) (x1 : Vec[S1024x256, .f32]) (j : S_.Idx) :
    mse (quantOf x0 x1) (chan x0) j = meansq x0 x1 :=
  mse_of _ _ _ (diff_eq x0 x1) j

/-- The loss: that mean and a quarter of it. -/
theorem loss_apply (x0 : Vec[S16x256x32x32, .f32]) (x1 : Vec[S1024x256, .f32]) (j : S_.Idx) :
    loss (quantOf x0 x1) (chan x0) j = (meansq x0 x1 + Ideal.ofBits .f32 0x3E800000#32 * meansq x0 x1 : EReal) := by
  unfold loss
  rw [addf_apply, mulf_apply, mse_apply, const_scalar]

/-- How often a codebook row is used. -/
def uses (e : Vec[S16384x1024, .f32]) (k : Fin 1024) : EReal := ∑ n : Fin 16384, (e (ix2 n k) : EReal)

/-- The mean of the encodings at a codebook row. -/
theorem emean_apply (e : Vec[S16384x1024, .f32]) (k : Fin 1024) :
    emean e (ix1 k) = Ideal.div (uses e k) (Ideal.ofBits .f32 0x46800000#32) := by
  have hs : Host.reduceAdd (F := Ideal) e (constant S_ .f32 0x00000000#32) reducesTo_S16384x1024_S1024_d0 h_S_ (ix1 k) = uses e k := by
    unfold uses
    rw [hostReduceAdd_apply, Ideal.hostReduceAdd_single reducesTo_S16384x1024_S1024_d0 (by decide), zero_scalar, zero_add]
    refine Finset.sum_congr rfl fun n _ => ?_
    exact congrArg e (funext fun a => Fin.ext (by match a with | ⟨0, _⟩ => rfl | ⟨1, _⟩ => rfl))
  unfold emean
  rw [hostDivf_apply, hs, broadcastInDim_scalar_apply, const_scalar]

/-- The perplexity: the exponential of the entropy of the rows' use. -/
theorem perp_apply (e : Vec[S16384x1024, .f32]) (j : S_.Idx) : perp e j = Ideal.exp (-∑ k : Fin 1024,
    (emean e (ix1 k) * Ideal.log (emean e (ix1 k) + Ideal.ofBits .f32 0x2EDBE6FF#32) : EReal)) := by
  unfold perp
  generalize emean e = p
  have hs : Host.reduceAdd (F := Ideal) (mulf p (Host.log (addf p (broadcastInDim S1024 ![] bcast_S_S1024
      (constant S_ .f32 0x2EDBE6FF#32))))) (constant S_ .f32 0x00000000#32) reducesTo_S1024_S_d0 h_S_ j
      = ∑ k : Fin 1024, (p (ix1 k) * Ideal.log (p (ix1 k) + Ideal.ofBits .f32 0x2EDBE6FF#32) : EReal) := by
    rw [hostReduceAdd_apply, Ideal.hostReduceAdd_total _ (fun b => b.elim0), zero_scalar, zero_add,
      ← Equiv.sum_comp idxEquiv1.symm]
    rfl
  show Ideal.exp (-(Host.reduceAdd (F := Ideal) _ _ _ _ j : EReal)) = _
  rw [hs]

end Cert.Proof.Ref

end
-- ==== Proof.KerMatch.lean ====
/- One block of the kernel against the reference, over the ideal floats: from four input blocks that hold a block of tokens, their
   squared norms, the codebook and its squared norms, the block's results are the reference's at that block's tokens. -/
module

public import proofs.«01_k».proof.Proof.KerBlock
public import proofs.«01_k».proof.Proof.KerRun
public import proofs.«01_k».proof.Proof.RefValue

@[expose] public section

set_option maxRecDepth 16384

noncomputable section

namespace Cert.Proof.Ker

open Cert.KernelIdeal Cert.KernelIdeal.Gen Idealize.ShloMosaic Idealize.ShloMosaic.ValueIdx

/-- Token `p` of block `t`. -/
def tok (t : Fin 8) (p : Fin 2048) : Fin 16384 := ⟨t.val * 2048 + p.val, by omega⟩

/-- A sum over blocks and places in them is a sum over all places. -/
theorem sum_blocks {a b N : ℕ} (h : a * b = N) (f : Fin N → EReal) (g : Fin a → Fin b → Fin N)
    (hg : ∀ t p, (g t p).val = t.val * b + p.val) : ∑ n : Fin N, f n = ∑ t : Fin a, ∑ p : Fin b, f (g t p) := by
  subst h
  rw [← Equiv.sum_comp finProdFinEquiv f, Fintype.sum_prod_type]
  refine Finset.sum_congr rfl fun t _ => Finset.sum_congr rfl fun p _ => congrArg f (Fin.ext ?_)
  rw [hg]
  show p.val + b * t.val = t.val * b + p.val
  rw [Nat.mul_comm, Nat.add_comm]

/-- A sum over all tokens, block by block. -/
theorem sum_tok (f : Fin 16384 → EReal) : ∑ n : Fin 16384, f n = ∑ t : Fin 8, ∑ p : Fin 2048, f (tok t p) :=
  sum_blocks (by norm_num) f tok fun _ _ => rfl

/-! ## The arrays the kernel is given -/

section Arrays
variable (X0 : Vec Ideal S16x256x32x32 .f32) (X1 : Vec Ideal S1024x256 .f32)

/-- The token vectors are the reference's. -/
theorem zfH_eq : zfH (F := Ideal) X0 = Ref.flat (F := Ideal) X0 := rfl

/-- A token vector's entry in the input: the token's place in the image, the entry's channel. -/
theorem flat_apply (b : Fin 16) (h w : Fin 32) (e : Fin 256) (n : Fin 16384) (hn : n.val = (b.val * 32 + h.val) * 32 + w.val) :
    Ref.flat (F := Ideal) X0 (ix2 n e) = X0 (ix4 b e h w) := by
  unfold Ref.flat Ref.chan
  refine (shapeCast_apply _ _ (ix2 n e) (ix4 b h w e) ?_).trans ?_
  · rewrite [Shape.rowMajor_val_four, Shape.rowMajor_val_two]
    show ((b.val * 32 + h.val) * 32 + w.val) * 256 + e.val = n.val * 256 + e.val
    rw [hn]
  · exact transpose_apply [0, 2, 3, 1] X0 _ (ix4 b h w e) (ix4 b e h w) (fun q => match q with
      | ⟨0, _⟩ => rfl
      | ⟨1, _⟩ => rfl
      | ⟨2, _⟩ => rfl
      | ⟨3, _⟩ => rfl)

/-- The channel sums of an input-shaped array. -/
theorem channel_sum (y : FVec Ideal S16x256x32x32 .f32) (b : Fin 16) (h w : Fin 32) :
    Host.reduceAdd (F := Ideal) y (constant S_ .f32 0x00000000#32) reducesTo_S16x256x32x32_S16x32x32_d1 h_S_ (ix3 b h w)
      = (∑ e : Fin 256, (y (ix4 b e h w) : EReal) : EReal) := by
  rw [hostReduceAdd_apply, Ideal.hostReduceAdd_single reducesTo_S16x256x32x32_S16x32x32_d1 (by decide)]
  refine (congrArg₂ (fun a b : EReal => a + b) (Ref.zero_scalar _) (Finset.sum_congr rfl fun e _ => ?_)).trans (zero_add _)
  exact congrArg y (funext fun a => Fin.ext (by match a with | ⟨0, _⟩ => rfl | ⟨1, _⟩ => rfl | ⟨2, _⟩ => rfl | ⟨3, _⟩ => rfl))

/-- The squared norms, laid out in blocks, are the reference's. -/
theorem z2H_apply (t : Fin 8) (p : Fin 2048) : z2H (F := Ideal) X0 (ix3 t 0 p) = Ref.normZ (F := Ideal) X0 (ix1 (tok t p)) := by
  have hn : (tok t p).val = (((tok t p).val / 1024) * 32 + (tok t p).val / 32 % 32) * 32 + (tok t p).val % 32 := by omega
  have hb : (tok t p).val / 1024 < 16 := by omega
  have hh : (tok t p).val / 32 % 32 < 32 := by omega
  have hw : (tok t p).val % 32 < 32 := by omega
  rw [Ref.normZ_apply]
  unfold z2H
  refine (shapeCast_apply _ _ (ix3 t 0 p) (ix3 ⟨_, hb⟩ ⟨_, hh⟩ ⟨_, hw⟩) ?_).trans ?_
  · rewrite [Shape.rowMajor_val_three, Shape.rowMajor_val_three]
    show (((tok t p).val / 1024) * 32 + (tok t p).val / 32 % 32) * 32 + (tok t p).val % 32 = (t.val * 1 + 0) * 2048 + p.val
    rw [← hn]
    show t.val * 2048 + p.val = _
    omega
  · rw [channel_sum]
    refine Finset.sum_congr rfl fun e _ => ?_
    rw [flat_apply X0 ⟨_, hb⟩ ⟨_, hh⟩ ⟨_, hw⟩ e (tok t p) hn]
    rfl

/-- The codebook's squared norms, laid out as a row, are the reference's. -/
theorem w2H_apply (k : Fin 1024) : w2H (F := Ideal) X1 (ix2 0 k) = Ref.normW (F := Ideal) X1 (ix1 k) := by
  unfold w2H Ref.normW
  exact shapeCast_apply _ _ (ix2 0 k) (ix1 k) (by
    rewrite [Shape.rowMajor_val_one, Shape.rowMajor_val_two]; show k.val = 0 * 1024 + k.val; omega)

/-- The codebook at the narrower format is the codebook. -/
theorem wbH_apply (k : Fin 1024) (e : Fin 256) : (wbH (F := Ideal) X1 (ix2 k e) : EReal) = X1 (ix2 k e) := rfl
end Arrays

/-! ## A block's results -/

/-- Four input blocks that hold block `t` of the tokens, their squared norms, the codebook and its squared norms. -/
structure BlockOf (X0 : Vec Ideal S16x256x32x32 .f32) (X1 : Vec Ideal S1024x256 .f32) (t : Fin 8)
    (x0 : Vec Ideal S2048x256 .f32) (x1 : Vec Ideal S1x1x2048 .f32) (x2 : Vec Ideal S1024x256 .bf16) (x3 : Vec Ideal S1x1024 .f32) :
    Prop where
  tokens : ∀ p e, (x0 (ix2 p e) : EReal) = Ref.flat (F := Ideal) X0 (ix2 (tok t p) e)
  norms : ∀ p, (x1 (ix3 0 0 p) : EReal) = Ref.normZ (F := Ideal) X0 (ix1 (tok t p))
  book : ∀ k e, (x2 (ix2 k e) : EReal) = X1 (ix2 k e)
  bookNorms : ∀ k, (x3 (ix2 0 k) : EReal) = Ref.normW (F := Ideal) X1 (ix1 k)

section Results
variable {X0 : Vec Ideal S16x256x32x32 .f32} {X1 : Vec Ideal S1024x256 .f32} {t : Fin 8}
  {x0 : Vec Ideal S2048x256 .f32} {x1 : Vec Ideal S1x1x2048 .f32} {x2 : Vec Ideal S1024x256 .bf16} {x3 : Vec Ideal S1x1024 .f32}
  (H : BlockOf X0 X1 t x0 x1 x2 x3)
include H

/-- The block's distances are the reference's. -/
theorem dist_of (p : Fin 2048) (k : Fin 1024) :
    (distB x0 x1 x2 x3 (ix2 p k) : EReal) = Ref.dist (F := Ideal) X0 X1 (ix2 (tok t p) k) := by
  rw [distB_apply, Ref.dist_apply, Ref.inner_apply, H.norms, H.bookNorms]
  refine congrArg (fun s : EReal => (Ref.normZ (F := Ideal) X0 (ix1 (tok t p)) + Ref.normW (F := Ideal) X1 (ix1 k)
    - Ideal.ofBits .f32 0x40000000#32 * s : EReal)) (Finset.sum_congr rfl fun e _ => ?_)
  rw [H.tokens, H.book]

/-- The picked indices are the reference's. -/
theorem pick_of (p : Fin 2048) : k0_pay13 x0 x2 x1 x3 (ix2 p 0) = BitVec.ofNat 32 (Ref.near X0 X1 (tok t p)).val := by
  rw [pay13_eq, pick_apply]
  unfold Ref.near
  rw [funext fun k => dist_of H p k]

/-- The block's encodings are the reference's. -/
theorem enc_of (p : Fin 2048) (k : Fin 1024) :
    (encB x0 x1 x2 x3 (ix2 p k) : EReal) = Ref.encOf (F := Ideal) X0 X1 (ix2 (tok t p) k) := by
  rw [encB_apply x0 x1 x2 x3 (fun p => Ref.near X0 X1 (tok t p)) (pick_of H), Ref.encOf_apply]

/-- The block's indices are the reference's. -/
theorem idx_of (p : Fin 2048) : idxB x0 x1 x2 x3 (ix3 0 0 p) = Ref.idxOf (F := Ideal) X0 X1 (ix1 (tok t p)) := by
  rw [idxB_apply x0 x1 x2 x3 (fun p => Ref.near X0 X1 (tok t p)) (pick_of H), Ref.idxOf_apply]

/-- The block's differences are the reference's. -/
theorem diff_of (p : Fin 2048) (e : Fin 256) :
    (diffB x0 x1 x2 x3 (ix2 p e) : EReal) = Ref.diff X0 X1 (ix2 (tok t p) e) := by
  rw [diffB_apply]
  unfold Ref.diff
  rw [subf_apply, Ref.qflat_apply, H.tokens]
  refine congrArg (fun s : EReal => (s - Ref.flat (F := Ideal) X0 (ix2 (tok t p) e) : EReal)) (Finset.sum_congr rfl fun k _ => ?_)
  rw [enc_of H, H.book]

/-- The block's quantized vectors are the reference's. -/
theorem zq_of (p : Fin 2048) (e : Fin 256) : (zqB x0 x1 x2 x3 (ix2 p e) : EReal)
    = addf (F := Ideal) (φ := .f32) (Ref.flat (F := Ideal) X0) (Ref.diff X0 X1) (ix2 (tok t p) e) := by
  rw [zqB_apply, addf_apply, diff_of H, H.tokens]

/-- The counts grow by the block's encodings. -/
theorem cnt_of (s : Vec Ideal S1x1024 .f32) (k : Fin 1024) : (cntB x0 x1 x2 x3 s (ix2 0 k) : EReal)
    = (s (ix2 0 k) + ∑ p : Fin 2048, (Ref.encOf (F := Ideal) X0 X1 (ix2 (tok t p) k) : EReal) : EReal) := by
  rw [cntB_apply]
  exact congrArg (fun x : EReal => (s (ix2 0 k) + x : EReal)) (Finset.sum_congr rfl fun p _ => enc_of H p k)

/-- The sums grow by the block's squared differences. -/
theorem sq_of (s : Vec Ideal S1x256 .f32) (e : Fin 256) : (sqB x0 x1 x2 x3 s (ix2 0 e) : EReal)
    = (s (ix2 0 e) + ∑ p : Fin 2048, (Ref.diff X0 X1 (ix2 (tok t p) e) * Ref.diff X0 X1 (ix2 (tok t p) e) : EReal) : EReal) := by
  rw [sqB_apply]
  exact congrArg (fun x : EReal => (s (ix2 0 e) + x : EReal)) (Finset.sum_congr rfl fun p _ => by rw [diff_of H])
end Results

end Cert.Proof.Ker

end
-- ==== Proof.KerValue.lean ====
/- The kernel's result arrays against the reference's functions of the same arguments, over the ideal floats. -/
module

public import proofs.«01_k».proof.Proof.KerMatch

@[expose] public section

set_option maxRecDepth 16384

noncomputable section

namespace Cert.Proof.Ker

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

/-- The input on a device. -/
abbrev A0 : Vec Ideal S16x256x32x32 .f32 := m ((c : Thread nD τ).loc main_arg0)

/-- The codebook on a device. -/
abbrev A1 : Vec Ideal S1024x256 .f32 := m ((c : Thread nD τ).loc main_arg1)

/-! ## The blocks the kernel reads -/

/-- Windows 0 and 1 move with the point; windows 2 and 3 stay. -/
theorem ix_in : ∀ t : Fin cfg0.N, (win0_0.index t (0 : Fin 2) = t.val ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, _)

/-- Window 0's block at a place. -/
theorem iblk_0 (t : Fin cfg0.N) (y : S2048x256.Idx) (i : S16384x256.Idx) (h0 : (i 0).val = t.val * 2048 + (y 0).val)
    (h1 : (i 1).val = (y 1).val) : (iblk m c 0 t : Vec Ideal S2048x256 .f32) y = zfH (A0 m c) i := by
  obtain ⟨⟨e0, e1⟩, -⟩ := ix_in t
  have hb0 : (((cfg0.win 0).blk t).view.emb y 0).val = win0_0.index t (0 : Fin 2) * 2048 + 1 * (y 0).val := rfl
  have hb1 : (((cfg0.win 0).blk t).view.emb y 1).val = win0_0.index t (1 : Fin 2) * 256 + 1 * (y 1).val := rfl
  have q0 : (((cfg0.win 0).blk t).view.emb y 0).val = (i 0).val := by rw [hb0, e0, h0]; omega
  have q1 : (((cfg0.win 0).blk t).view.emb y 1).val = (i 1).val := by rw [hb1, e1, h1]; omega
  have hi : ((cfg0.win 0).blk t).view.emb y = i := funext fun a => Fin.ext (by
    match a with
    | ⟨0, _⟩ => exact q0
    | ⟨1, _⟩ => exact q1)
  show V m c main_call0_v1 (((cfg0.win 0).blk t).view.emb y) = _
  rw [V_zf]
  exact congrArg (zfH (A0 m c)) hi

/-- Window 1's block at a place. -/
theorem iblk_1 (t : Fin cfg0.N) (y : S1x1x2048.Idx) (i : S8x1x2048.Idx) (h0 : (i 0).val = t.val)
    (h2 : (i 2).val = (y 2).val) : (iblk m c 1 t : Vec Ideal S1x1x2048 .f32) y = z2H (A0 m c) i := by
  obtain ⟨-, ⟨e0, e1, e2⟩, -⟩ := ix_in t
  have hy0 : (y 0).val < 1 := (y 0).isLt
  have hy1 : (y 1).val < 1 := (y 1).isLt
  have hi1 : (i 1).val < 1 := (i 1).isLt
  have hb0 : (((cfg0.win 1).blk t).view.emb y 0).val = win0_1.index t (0 : Fin 3) * 1 + 1 * (y 0).val := rfl
  have hb1 : (((cfg0.win 1).blk t).view.emb y 1).val = win0_1.index t (1 : Fin 3) * 1 + 1 * (y 1).val := rfl
  have hb2 : (((cfg0.win 1).blk t).view.emb y 2).val = win0_1.index t (2 : Fin 3) * 2048 + 1 * (y 2).val := rfl
  have q0 : (((cfg0.win 1).blk t).view.emb y 0).val = (i 0).val := by rw [hb0, e0, h0]; omega
  have q1 : (((cfg0.win 1).blk t).view.emb y 1).val = (i 1).val := by rw [hb1, e1]; omega
  have q2 : (((cfg0.win 1).blk t).view.emb y 2).val = (i 2).val := by rw [hb2, e2, h2]; omega
  have hi : ((cfg0.win 1).blk t).view.emb y = i := funext fun a => Fin.ext (by
    match a with
    | ⟨0, _⟩ => exact q0
    | ⟨1, _⟩ => exact q1
    | ⟨2, _⟩ => exact q2)
  show V m c main_call0_v4 (((cfg0.win 1).blk t).view.emb y) = _
  rw [V_z2]
  exact congrArg (z2H (A0 m c)) hi

/-- Window 2's block at a place. -/
theorem iblk_2 (t : Fin cfg0.N) (y : S1024x256.Idx) : (iblk m c 2 t : Vec Ideal S1024x256 .bf16) y = wbH (A1 m c) y := by
  obtain ⟨-, -, ⟨e0, e1⟩, -⟩ := ix_in t
  have hb0 : (((cfg0.win 2).blk t).view.emb y 0).val = win0_2.index t (0 : Fin 2) * 1024 + 1 * (y 0).val := rfl
  have hb1 : (((cfg0.win 2).blk t).view.emb y 1).val = win0_2.index t (1 : Fin 2) * 256 + 1 * (y 1).val := rfl
  have q0 : (((cfg0.win 2).blk t).view.emb y 0).val = (y 0).val := by rw [hb0, e0]; omega
  have q1 : (((cfg0.win 2).blk t).view.emb y 1).val = (y 1).val := by rw [hb1, e1]; omega
  have hi : ((cfg0.win 2).blk t).view.emb y = y := funext fun a => Fin.ext (by
    match a with
    | ⟨0, _⟩ => exact q0
    | ⟨1, _⟩ => exact q1)
  show V m c main_call0_v8 (((cfg0.win 2).blk t).view.emb y) = _
  rw [V_wb]
  exact congrArg (wbH (A1 m c)) hi

/-- Window 3's block at a place. -/
theorem iblk_3 (t : Fin cfg0.N) (y : S1x1024.Idx) : (iblk m c 3 t : Vec Ideal S1x1024 .f32) y = w2H (A1 m c) y := by
  obtain ⟨-, -, -, ⟨e0, e1⟩⟩ := ix_in t
  have hb0 : (((cfg0.win 3).blk t).view.emb y 0).val = win0_3.index t (0 : Fin 2) * 1 + 1 * (y 0).val := rfl
  have hb1 : (((cfg0.win 3).blk t).view.emb y 1).val = win0_3.index t (1 : Fin 2) * 1024 + 1 * (y 1).val := rfl
  have q0 : (((cfg0.win 3).blk t).view.emb y 0).val = (y 0).val := by rw [hb0, e0]; omega
  have q1 : (((cfg0.win 3).blk t).view.emb y 1).val = (y 1).val := by rw [hb1, e1]; omega
  have hi : ((cfg0.win 3).blk t).view.emb y = y := funext fun a => Fin.ext (by
    match a with
    | ⟨0, _⟩ => exact q0
    | ⟨1, _⟩ => exact q1)
  show V m c main_call0_v7 (((cfg0.win 3).blk t).view.emb y) = _
  rw [V_w2]
  exact congrArg (w2H (A1 m c)) hi

/-- The blocks read at a point are that block of the arguments. -/
theorem blocks (t : Fin 8) : BlockOf (A0 m c) (A1 m c) t (iblk m c 0 (pt t.val t.isLt)) (iblk m c 1 (pt t.val t.isLt))
    (iblk m c 2 (pt t.val t.isLt)) (iblk m c 3 (pt t.val t.isLt)) :=
  ⟨fun p e => (iblk_0 m c _ (ix2 p e) (ix2 (tok t p) e) rfl rfl).trans (congrFun (zfH_eq (A0 m c)) _),
    fun p => (iblk_1 m c _ (ix3 0 0 p) (ix3 t 0 p) rfl rfl).trans (z2H_apply (A0 m c) t p),
    fun k e => (iblk_2 m c _ (ix2 k e)).trans (wbH_apply (A1 m c) k e),
    fun k => (iblk_3 m c _ (ix2 0 k)).trans (w2H_apply (A1 m c) k)⟩

/-! ## The running sums -/

/-- A sequence that starts at the first of eight terms and grows by the next one ends at their sum. -/
theorem sum_steps (f : (n : ℕ) → n < 8 → EReal) (g : Fin 8 → EReal) (h0 : f 0 (by decide) = g 0)
    (hs : ∀ (n : ℕ) (h : n + 1 < 8), f (n + 1) h = f n (by omega) + g ⟨n + 1, h⟩) : f 7 (by decide) = ∑ t, g t := by
  rw [Fin.sum_univ_eight, hs 6, hs 5, hs 4, hs 3, hs 2, hs 1, hs 0, h0]
  rfl

/-- The uses of a codebook row in one block. -/
def usesIn (k : Fin 1024) (t : Fin 8) : EReal :=
  ∑ p : Fin 2048, (Ref.encOf (F := Ideal) (A0 m c) (A1 m c) (ix2 (tok t p) k) : EReal)

/-- The counts after a block. -/
theorem cnt_step (t : Fin 8) (s : Vec Ideal S1x1024 .f32) (k : Fin 1024) :
    (atB m c cntB (pt t.val t.isLt) s (ix2 0 k) : EReal) = (s (ix2 0 k) + usesIn m c k t : EReal) :=
  cnt_of (blocks m c t) s k

/-- The counts at the end are the uses of each codebook row. -/
theorem cnt_end (k : Fin 1024) :
    (cntN m c 7 (by decide) (ix2 0 k) : EReal) = Ref.uses (Ref.encOf (F := Ideal) (A0 m c) (A1 m c)) k := by
  unfold Ref.uses
  rw [sum_tok]
  exact sum_steps (fun n h => (cntN m c n h (ix2 0 k) : EReal)) (usesIn m c k)
    ((cnt_step m c 0 (k0_pay11 (F := Ideal)) k).trans (by rw [pay11_apply, zero_add]))
    (fun n h => cnt_step m c ⟨n + 1, h⟩ (cntN m c n (by omega)) k)

/-- The sum of one channel's squared differences in one block. -/
def sqIn (e : Fin 256) (t : Fin 8) : EReal :=
  ∑ p : Fin 2048, (Ref.diff (A0 m c) (A1 m c) (ix2 (tok t p) e) * Ref.diff (A0 m c) (A1 m c) (ix2 (tok t p) e) : EReal)

/-- The squared-difference sums after a block. -/
theorem sq_step (t : Fin 8) (s : Vec Ideal S1x256 .f32) (e : Fin 256) :
    (atB m c sqB (pt t.val t.isLt) s (ix2 0 e) : EReal) = (s (ix2 0 e) + sqIn m c e t : EReal) :=
  sq_of (blocks m c t) s e

/-- The sums at the end are the sums of all squared differences. -/
theorem sq_end (e : Fin 256) : (sqN m c 7 (by decide) (ix2 0 e) : EReal)
    = ∑ n : Fin 16384, (Ref.diff (A0 m c) (A1 m c) (ix2 n e) * Ref.diff (A0 m c) (A1 m c) (ix2 n e) : EReal) := by
  rw [sum_tok]
  exact sum_steps (fun n h => (sqN m c n h (ix2 0 e) : EReal)) (sqIn m c e)
    ((sq_step m c 0 (k0_pay12 (F := Ideal)) e).trans (by rw [pay12_apply, zero_add]))
    (fun n h => sq_step m c ⟨n + 1, h⟩ (sqN m c n (by omega)) e)

/-! ## The results -/

/-- Every token is some place of some block. -/
theorem exists_tok (n : Fin 16384) : ∃ t p, n = tok t p :=
  ⟨⟨n.val / 2048, by omega⟩, ⟨n.val % 2048, by omega⟩, Fin.ext (by show n.val = n.val / 2048 * 2048 + n.val % 2048; omega)⟩

/-- The encodings are the reference's. -/
theorem enc_result : (G7 m c : Vec Ideal S16384x1024 .f32) = Ref.encOf (F := Ideal) (A0 m c) (A1 m c) := by
  funext i
  obtain ⟨n, k, rfl⟩ : ∃ (n : Fin 16384) (k : Fin 1024), i = ix2 n k := ⟨i 0, i 1, eq_ix2 i⟩
  obtain ⟨t, p, rfl⟩ := exists_tok n
  exact (G7_of m c (pt t.val t.isLt) (ix2 p k) (ix2 (tok t p) k) rfl rfl).trans (enc_of (blocks m c t) p k)

/-- The quantized vectors are the reference's, flat. -/
theorem zq_flat : (G5 m c : Vec Ideal S16384x256 .f32)
    = addf (F := Ideal) (φ := .f32) (Ref.flat (F := Ideal) (A0 m c)) (Ref.diff (A0 m c) (A1 m c)) := by
  funext i
  obtain ⟨n, e, rfl⟩ : ∃ (n : Fin 16384) (e : Fin 256), i = ix2 n e := ⟨i 0, i 1, eq_ix2 i⟩
  obtain ⟨t, p, rfl⟩ := exists_tok n
  exact (G5_of m c (pt t.val t.isLt) (ix2 p e) (ix2 (tok t p) e) rfl rfl).trans (zq_of (blocks m c t) p e)

/-- The quantized output is the reference's. -/
theorem zq_result : transpose S16x256x32x32 [0, 3, 1, 2] (shapeCast S16x32x32x256 (G5 m c : Vec Ideal S16384x256 .f32)
      shapeCasts_S16384x256_S16x32x32x256) transposes_S16x32x32x256_S16x256x32x32_0_3_1_2
    = Ref.outq (F := Ideal) (Ref.quantOf (A0 m c) (A1 m c)) (Ref.chan (A0 m c)) := by
  rw [zq_flat, Ref.outq_eq]

/-- The indices are the reference's. -/
theorem idx_result : shapeCast S16384x1 (G8 m c : Vec Ideal S8x1x2048 .i32) shapeCasts_S8x1x2048_S16384x1
    = Ref.col (F := Ideal) (Ref.idxOf (F := Ideal) (A0 m c) (A1 m c)) := by
  funext i
  obtain ⟨n, z, rfl⟩ : ∃ (n : Fin 16384) (z : Fin 1), i = ix2 n z := ⟨i 0, i 1, eq_ix2 i⟩
  obtain ⟨t, p, rfl⟩ := exists_tok n
  obtain rfl : z = 0 := Fin.ext (by omega)
  refine (shapeCast_apply _ _ (ix2 (tok t p) 0) (ix3 t 0 p) (by
    rewrite [Shape.rowMajor_val_three, Shape.rowMajor_val_two]
    show (t.val * 1 + 0) * 2048 + p.val = (t.val * 2048 + p.val) * 1 + 0
    omega)).trans ?_
  refine (G8_of m c (pt t.val t.isLt) (ix3 0 0 p) (ix3 t 0 p) rfl rfl).trans ((idx_of (blocks m c t) p).trans ?_)
  unfold Ref.col
  exact (broadcastInDim_apply _ _ _ (ix2 (tok t p) 0) (ix1 (tok t p)) (fun q => match q with
    | ⟨0, _⟩ => by show (tok t p).val = if (16384 : Nat) = 1 then 0 else (tok t p).val; rw [if_neg (by decide)])).symm

/-- The loss is the reference's. -/
theorem loss_result : shapeCast S_ (G4 m c : Vec Ideal S1x1 .f32) shapeCasts_S1x1_S_
    = Ref.loss (F := Ideal) (Ref.quantOf (A0 m c) (A1 m c)) (Ref.chan (A0 m c)) := by
  funext j
  refine (shapeCast_apply _ _ j (ix2 0 0) (by
    rewrite [Shape.rowMajor_val_two]; exact (Nat.lt_one_iff.1 (S_.rowMajor j).isLt).symm)).trans ?_
  rw [Ref.loss_apply]
  refine pay7_apply (sqN m c 7 (by decide)) (ix2 0 0) (Ref.meansq (A0 m c) (A1 m c)) ?_
  unfold Ref.meansq
  rw [Finset.sum_comm]
  exact congrArg (fun s : EReal => Ideal.div s (Ideal.ofBits .f32 0x4A800000#32))
    (Finset.sum_congr rfl fun e _ => (sq_end m c e).symm)

/-- A product with the reciprocal of 16384 is a quotient by 16384. -/
theorem mul_recip (x : EReal) : (x * Ideal.ofBits .f32 0x38800000#32 : EReal) = Ideal.div x (Ideal.ofBits .f32 0x46800000#32) := by
  have h1 : Ideal.ofBits .f32 0x46800000#32 = ((16384 : ℝ) : EReal) := by
    simp [Ideal.ofBits, Ideal.ieee, -EReal.coe_mul]; norm_num
  have h2 : Ideal.ofBits .f32 0x38800000#32 = (((16384 : ℝ)⁻¹ : ℝ) : EReal) := by
    simp [Ideal.ofBits, Ideal.ieee, -EReal.coe_mul]; norm_num
  rw [h1, h2]
  unfold Ideal.div
  rw [if_neg (by norm_cast), EReal.coe_inv]

/-- The perplexity is the reference's. -/
theorem perp_result : shapeCast S_ (G6 m c : Vec Ideal S1x1 .f32) shapeCasts_S1x1_S_
    = Ref.perp (F := Ideal) (Ref.encOf (F := Ideal) (A0 m c) (A1 m c)) := by
  funext j
  refine (shapeCast_apply _ _ j (ix2 0 0) (by
    rewrite [Shape.rowMajor_val_two]; exact (Nat.lt_one_iff.1 (S_.rowMajor j).isLt).symm)).trans ?_
  rw [Ref.perp_apply]
  refine pay8_apply (cntN m c 7 (by decide)) (ix2 0 0)
    (fun k => (Ref.emean (F := Ideal) (Ref.encOf (F := Ideal) (A0 m c) (A1 m c)) (ix1 k) : EReal)) fun k => ?_
  rw [Ref.emean_apply, cnt_end, mul_recip]

end Cert.Proof.Ker

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.KerRun
public import proofs.«01_k».proof.Proof.KerValue
public import Idealize.ShloMosaic.Adequacy
public import Idealize.ShloMosaic.Init

@[expose] public section

noncomputable section

namespace Cert.Proof

open Idealize.ShloMosaic Idealize.SL.Sem

/-- The reference runs, its arguments end unchanged and every semaphore counter ends at zero. -/
theorem frame_reference [Cert.ReferenceIdeal.Facts] : Cert.quiescent_ReferenceIdeal := fun m ρ _ =>
  (θ_run _ _ _).mono (fun _ h => ⟨fun c => (h.1 c).2.2.2.2.2, h.2⟩) (Ref.run (F := Ideal) m ρ)

/-- From memories that agree on the arguments, the kernel and the reference end with the same five results: the loss, the
    quantized output, the perplexity, the encodings and the indices, equal entry by entry over the ideal floats. -/
theorem algebraic [Cert.KernelIdeal.Facts] [Cert.ReferenceIdeal.Facts] : Cert.algebraic_KernelIdeal_ReferenceIdeal :=
  fun m g m' g' _ hagree =>
    ⟨fun c => Ref.loss (F := Ideal) (Ref.quantOf (Ker.A0 m c) (Ker.A1 m c)) (Ref.chan (Ker.A0 m c)),
     fun c => Ref.outq (F := Ideal) (Ref.quantOf (Ker.A0 m c) (Ker.A1 m c)) (Ref.chan (Ker.A0 m c)),
     fun c => Ref.perp (F := Ideal) (Ref.encOf (F := Ideal) (Ker.A0 m c) (Ker.A1 m c)),
     fun c => Ref.encOf (F := Ideal) (Ker.A0 m c) (Ker.A1 m c),
     fun c => Ref.col (F := Ideal) (Ref.idxOf (F := Ideal) (Ker.A0 m c) (Ker.A1 m c)),
     (θ_run _ _ _).mono (fun r h c => by
        obtain ⟨h0, h1, h2, h3, h4, ha, hb⟩ := h c
        exact ⟨h0.trans (Ker.loss_result m c), h1.trans (Ker.zq_result m c), h2.trans (Ker.perp_result m c),
          h3.trans (Ker.enc_result m c), h4.trans (Ker.idx_result m c), ha, hb⟩) (Ker.run (F := Ideal) m g),
     (θ_run _ _ _).mono (fun r h c => by
        obtain ⟨h0, h1, h2, h3, h4, ha, hb⟩ := h.1 c
        obtain ⟨e0, e1⟩ := hagree c
        refine ⟨h0.trans ?_, h1.trans ?_, h2.trans ?_, h3.trans ?_, h4.trans ?_, ha, hb⟩ <;> rw [e0, e1]
        all_goals rfl) (Ref.run (F := Ideal) m' g')⟩

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    @frame_reference Cert.ReferenceIdeal.Gen.facts, trivial,
    @algebraic Cert.KernelIdeal.Gen.facts Cert.ReferenceIdeal.Gen.facts⟩

end Cert.Proof

end
